-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelH (m : (ℓ : Loc Cert.KernelH.nD Cert.KernelH.τ Cert.KernelH.sig) → Buf (Elt Bits) ℓ) : Prop :=
  True

def Pre_ReferenceH (m : (ℓ : Loc Cert.ReferenceH.nD Cert.ReferenceH.τ Cert.ReferenceH.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1)
      ∧ r.2.mem ((c.tc : Thread Cert.KernelK.nD Cert.KernelK.τ).loc Cert.KernelK.main_arg2) = m ((c.tc : Thread Cert.KernelK.nD Cert.KernelK.τ).loc Cert.KernelK.main_arg2)
      ∧ r.2.mem ((c.tc : Thread Cert.KernelK.nD Cert.KernelK.τ).loc Cert.KernelK.main_arg3) = m ((c.tc : Thread Cert.KernelK.nD Cert.KernelK.τ).loc Cert.KernelK.main_arg3)
      ∧ r.2.mem ((c.tc : Thread Cert.KernelK.nD Cert.KernelK.τ).loc Cert.KernelK.main_arg4) = m ((c.tc : Thread Cert.KernelK.nD Cert.KernelK.τ).loc Cert.KernelK.main_arg4)
      ∧ r.2.mem ((c.tc : Thread Cert.KernelK.nD Cert.KernelK.τ).loc Cert.KernelK.main_arg5) = m ((c.tc : Thread Cert.KernelK.nD Cert.KernelK.τ).loc Cert.KernelK.main_arg5))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
      ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2)
      ∧ r.2.mem ((c.tc : Thread Cert.KernelKIdeal.nD Cert.KernelKIdeal.τ).loc Cert.KernelKIdeal.main_arg3) = m ((c.tc : Thread Cert.KernelKIdeal.nD Cert.KernelKIdeal.τ).loc Cert.KernelKIdeal.main_arg3)
      ∧ r.2.mem ((c.tc : Thread Cert.KernelKIdeal.nD Cert.KernelKIdeal.τ).loc Cert.KernelKIdeal.main_arg4) = m ((c.tc : Thread Cert.KernelKIdeal.nD Cert.KernelKIdeal.τ).loc Cert.KernelKIdeal.main_arg4)
      ∧ r.2.mem ((c.tc : Thread Cert.KernelKIdeal.nD Cert.KernelKIdeal.τ).loc Cert.KernelKIdeal.main_arg5) = m ((c.tc : Thread Cert.KernelKIdeal.nD Cert.KernelKIdeal.τ).loc Cert.KernelKIdeal.main_arg5))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1)
      ∧ r.2.mem ((c.tc : Thread Cert.ReferenceKIdeal.nD Cert.ReferenceKIdeal.τ).loc Cert.ReferenceKIdeal.main_arg2) = m ((c.tc : Thread Cert.ReferenceKIdeal.nD Cert.ReferenceKIdeal.τ).loc Cert.ReferenceKIdeal.main_arg2)
      ∧ r.2.mem ((c.tc : Thread Cert.ReferenceKIdeal.nD Cert.ReferenceKIdeal.τ).loc Cert.ReferenceKIdeal.main_arg3) = m ((c.tc : Thread Cert.ReferenceKIdeal.nD Cert.ReferenceKIdeal.τ).loc Cert.ReferenceKIdeal.main_arg3)
      ∧ r.2.mem ((c.tc : Thread Cert.ReferenceKIdeal.nD Cert.ReferenceKIdeal.τ).loc Cert.ReferenceKIdeal.main_arg4) = m ((c.tc : Thread Cert.ReferenceKIdeal.nD Cert.ReferenceKIdeal.τ).loc Cert.ReferenceKIdeal.main_arg4)
      ∧ r.2.mem ((c.tc : Thread Cert.ReferenceKIdeal.nD Cert.ReferenceKIdeal.τ).loc Cert.ReferenceKIdeal.main_arg5) = m ((c.tc : Thread Cert.ReferenceKIdeal.nD Cert.ReferenceKIdeal.τ).loc Cert.ReferenceKIdeal.main_arg5))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2)
      ∧ r.2.mem ((c.tc : Thread Cert.KernelV.nD Cert.KernelV.τ).loc Cert.KernelV.main_arg3) = m ((c.tc : Thread Cert.KernelV.nD Cert.KernelV.τ).loc Cert.KernelV.main_arg3)
      ∧ r.2.mem ((c.tc : Thread Cert.KernelV.nD Cert.KernelV.τ).loc Cert.KernelV.main_arg4) = m ((c.tc : Thread Cert.KernelV.nD Cert.KernelV.τ).loc Cert.KernelV.main_arg4)
      ∧ r.2.mem ((c.tc : Thread Cert.KernelV.nD Cert.KernelV.τ).loc Cert.KernelV.main_arg5) = m ((c.tc : Thread Cert.KernelV.nD Cert.KernelV.τ).loc Cert.KernelV.main_arg5))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
      ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
      ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
      ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2)
      ∧ r.2.mem ((c.tc : Thread Cert.ReferenceVIdeal.nD Cert.ReferenceVIdeal.τ).loc Cert.ReferenceVIdeal.main_arg3) = m ((c.tc : Thread Cert.ReferenceVIdeal.nD Cert.ReferenceVIdeal.τ).loc Cert.ReferenceVIdeal.main_arg3)
      ∧ r.2.mem ((c.tc : Thread Cert.ReferenceVIdeal.nD Cert.ReferenceVIdeal.τ).loc Cert.ReferenceVIdeal.main_arg4) = m ((c.tc : Thread Cert.ReferenceVIdeal.nD Cert.ReferenceVIdeal.τ).loc Cert.ReferenceVIdeal.main_arg4)
      ∧ r.2.mem ((c.tc : Thread Cert.ReferenceVIdeal.nD Cert.ReferenceVIdeal.τ).loc Cert.ReferenceVIdeal.main_arg5) = m ((c.tc : Thread Cert.ReferenceVIdeal.nD Cert.ReferenceVIdeal.τ).loc Cert.ReferenceVIdeal.main_arg5))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4))
      ∧ r.2.sem = fun _ => 0)

def quiescent_ReferenceH [hReferenceH : Cert.ReferenceH.Facts] : Prop :=
  ∀ (m : (ℓ : Loc Cert.ReferenceH.nD Cert.ReferenceH.τ Cert.ReferenceH.sig) → Buf (Elt Bits) ℓ) (g : Dev Cert.ReferenceH.nD → PrngReg), Pre_ReferenceH m →
    θ_run (Cert.ReferenceH.defs (F := Bits)) (onTc (τ := Cert.ReferenceH.τ) (Cert.ReferenceH.main (F := Bits))) ⟨m, fun _ => 0, g⟩ (fun r => (∀ c : Dev Cert.ReferenceH.nD,
      r.2.mem ((c.tc : Thread Cert.ReferenceH.nD Cert.ReferenceH.τ).loc Cert.ReferenceH.main_arg0) = m ((c.tc : Thread Cert.ReferenceH.nD Cert.ReferenceH.τ).loc Cert.ReferenceH.main_arg0)
      ∧ r.2.mem ((c.tc : Thread Cert.ReferenceH.nD Cert.ReferenceH.τ).loc Cert.ReferenceH.main_arg1) = m ((c.tc : Thread Cert.ReferenceH.nD Cert.ReferenceH.τ).loc Cert.ReferenceH.main_arg1)
      ∧ r.2.mem ((c.tc : Thread Cert.ReferenceH.nD Cert.ReferenceH.τ).loc Cert.ReferenceH.main_arg2) = m ((c.tc : Thread Cert.ReferenceH.nD Cert.ReferenceH.τ).loc Cert.ReferenceH.main_arg2)
      ∧ r.2.mem ((c.tc : Thread Cert.ReferenceH.nD Cert.ReferenceH.τ).loc Cert.ReferenceH.main_arg3) = m ((c.tc : Thread Cert.ReferenceH.nD Cert.ReferenceH.τ).loc Cert.ReferenceH.main_arg3)
      ∧ r.2.mem ((c.tc : Thread Cert.ReferenceH.nD Cert.ReferenceH.τ).loc Cert.ReferenceH.main_arg4) = m ((c.tc : Thread Cert.ReferenceH.nD Cert.ReferenceH.τ).loc Cert.ReferenceH.main_arg4))
      ∧ r.2.sem = fun _ => 0)

def preserves_Kernel_KernelIdeal : Prop :=
  IdealRules.bf16_pair.PackStatement Cert.KernelIdeal.S128x128
  ∧ IdealRules.bf16_pair.Statement Cert.KernelIdeal.S128x2x128 Cert.KernelIdeal.S128x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelK_KernelKIdeal : Prop :=
  IdealRules.bf16_pair.PackStatement Cert.KernelKIdeal.S128x128
  ∧ IdealRules.bf16_pair.Statement Cert.KernelKIdeal.S128x2x128 Cert.KernelKIdeal.S128x1x128

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)
      ∧ m' ((c.tc : Thread Cert.ReferenceKIdeal.nD Cert.ReferenceKIdeal.τ).loc Cert.ReferenceKIdeal.main_arg2) = m ((c.tc : Thread Cert.KernelKIdeal.nD Cert.KernelKIdeal.τ).loc Cert.KernelKIdeal.main_arg2)
      ∧ m' ((c.tc : Thread Cert.ReferenceKIdeal.nD Cert.ReferenceKIdeal.τ).loc Cert.ReferenceKIdeal.main_arg3) = m ((c.tc : Thread Cert.KernelKIdeal.nD Cert.KernelKIdeal.τ).loc Cert.KernelKIdeal.main_arg3)
      ∧ m' ((c.tc : Thread Cert.ReferenceKIdeal.nD Cert.ReferenceKIdeal.τ).loc Cert.ReferenceKIdeal.main_arg4) = m ((c.tc : Thread Cert.KernelKIdeal.nD Cert.KernelKIdeal.τ).loc Cert.KernelKIdeal.main_arg4)
      ∧ m' ((c.tc : Thread Cert.ReferenceKIdeal.nD Cert.ReferenceKIdeal.τ).loc Cert.ReferenceKIdeal.main_arg5) = m ((c.tc : Thread Cert.KernelKIdeal.nD Cert.KernelKIdeal.τ).loc Cert.KernelKIdeal.main_arg5)) →
    ∃ (v0 : (c : Dev Cert.KernelKIdeal.nD) → Buf (Elt Ideal) ((c.tc : Thread Cert.KernelKIdeal.nD Cert.KernelKIdeal.τ).loc Cert.KernelKIdeal.main_v1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v1) = v0 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
          ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2)
          ∧ r.2.mem ((c.tc : Thread Cert.KernelKIdeal.nD Cert.KernelKIdeal.τ).loc Cert.KernelKIdeal.main_arg3) = m ((c.tc : Thread Cert.KernelKIdeal.nD Cert.KernelKIdeal.τ).loc Cert.KernelKIdeal.main_arg3)
          ∧ r.2.mem ((c.tc : Thread Cert.KernelKIdeal.nD Cert.KernelKIdeal.τ).loc Cert.KernelKIdeal.main_arg4) = m ((c.tc : Thread Cert.KernelKIdeal.nD Cert.KernelKIdeal.τ).loc Cert.KernelKIdeal.main_arg4)
          ∧ r.2.mem ((c.tc : Thread Cert.KernelKIdeal.nD Cert.KernelKIdeal.τ).loc Cert.KernelKIdeal.main_arg5) = m ((c.tc : Thread Cert.KernelKIdeal.nD Cert.KernelKIdeal.τ).loc Cert.KernelKIdeal.main_arg5))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v65) = v0 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1)
          ∧ r.2.mem ((c.tc : Thread Cert.ReferenceKIdeal.nD Cert.ReferenceKIdeal.τ).loc Cert.ReferenceKIdeal.main_arg2) = m' ((c.tc : Thread Cert.ReferenceKIdeal.nD Cert.ReferenceKIdeal.τ).loc Cert.ReferenceKIdeal.main_arg2)
          ∧ r.2.mem ((c.tc : Thread Cert.ReferenceKIdeal.nD Cert.ReferenceKIdeal.τ).loc Cert.ReferenceKIdeal.main_arg3) = m' ((c.tc : Thread Cert.ReferenceKIdeal.nD Cert.ReferenceKIdeal.τ).loc Cert.ReferenceKIdeal.main_arg3)
          ∧ r.2.mem ((c.tc : Thread Cert.ReferenceKIdeal.nD Cert.ReferenceKIdeal.τ).loc Cert.ReferenceKIdeal.main_arg4) = m' ((c.tc : Thread Cert.ReferenceKIdeal.nD Cert.ReferenceKIdeal.τ).loc Cert.ReferenceKIdeal.main_arg4)
          ∧ r.2.mem ((c.tc : Thread Cert.ReferenceKIdeal.nD Cert.ReferenceKIdeal.τ).loc Cert.ReferenceKIdeal.main_arg5) = m' ((c.tc : Thread Cert.ReferenceKIdeal.nD Cert.ReferenceKIdeal.τ).loc Cert.ReferenceKIdeal.main_arg5))

def preserves_KernelV_KernelVIdeal : Prop :=
  IdealRules.bf16_pair.PackStatement Cert.KernelVIdeal.S128x128
  ∧ IdealRules.bf16_pair.Statement Cert.KernelVIdeal.S128x2x128 Cert.KernelVIdeal.S128x1x128

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)
      ∧ m' ((c.tc : Thread Cert.ReferenceVIdeal.nD Cert.ReferenceVIdeal.τ).loc Cert.ReferenceVIdeal.main_arg3) = m ((c.tc : Thread Cert.KernelVIdeal.nD Cert.KernelVIdeal.τ).loc Cert.KernelVIdeal.main_arg3)
      ∧ m' ((c.tc : Thread Cert.ReferenceVIdeal.nD Cert.ReferenceVIdeal.τ).loc Cert.ReferenceVIdeal.main_arg4) = m ((c.tc : Thread Cert.KernelVIdeal.nD Cert.KernelVIdeal.τ).loc Cert.KernelVIdeal.main_arg4)
      ∧ m' ((c.tc : Thread Cert.ReferenceVIdeal.nD Cert.ReferenceVIdeal.τ).loc Cert.ReferenceVIdeal.main_arg5) = m ((c.tc : Thread Cert.KernelVIdeal.nD Cert.KernelVIdeal.τ).loc Cert.KernelVIdeal.main_arg5)) →
    ∃ (v0 : (c : Dev Cert.KernelVIdeal.nD) → Buf (Elt Ideal) ((c.tc : Thread Cert.KernelVIdeal.nD Cert.KernelVIdeal.τ).loc Cert.KernelVIdeal.main_v1)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v1) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2)
          ∧ r.2.mem ((c.tc : Thread Cert.KernelVIdeal.nD Cert.KernelVIdeal.τ).loc Cert.KernelVIdeal.main_arg3) = m ((c.tc : Thread Cert.KernelVIdeal.nD Cert.KernelVIdeal.τ).loc Cert.KernelVIdeal.main_arg3)
          ∧ r.2.mem ((c.tc : Thread Cert.KernelVIdeal.nD Cert.KernelVIdeal.τ).loc Cert.KernelVIdeal.main_arg4) = m ((c.tc : Thread Cert.KernelVIdeal.nD Cert.KernelVIdeal.τ).loc Cert.KernelVIdeal.main_arg4)
          ∧ r.2.mem ((c.tc : Thread Cert.KernelVIdeal.nD Cert.KernelVIdeal.τ).loc Cert.KernelVIdeal.main_arg5) = m ((c.tc : Thread Cert.KernelVIdeal.nD Cert.KernelVIdeal.τ).loc Cert.KernelVIdeal.main_arg5))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v23) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2)
          ∧ r.2.mem ((c.tc : Thread Cert.ReferenceVIdeal.nD Cert.ReferenceVIdeal.τ).loc Cert.ReferenceVIdeal.main_arg3) = m' ((c.tc : Thread Cert.ReferenceVIdeal.nD Cert.ReferenceVIdeal.τ).loc Cert.ReferenceVIdeal.main_arg3)
          ∧ r.2.mem ((c.tc : Thread Cert.ReferenceVIdeal.nD Cert.ReferenceVIdeal.τ).loc Cert.ReferenceVIdeal.main_arg4) = m' ((c.tc : Thread Cert.ReferenceVIdeal.nD Cert.ReferenceVIdeal.τ).loc Cert.ReferenceVIdeal.main_arg4)
          ∧ r.2.mem ((c.tc : Thread Cert.ReferenceVIdeal.nD Cert.ReferenceVIdeal.τ).loc Cert.ReferenceVIdeal.main_arg5) = m' ((c.tc : Thread Cert.ReferenceVIdeal.nD Cert.ReferenceVIdeal.τ).loc Cert.ReferenceVIdeal.main_arg5))

def bitexact_KernelH_ReferenceH [hKernelH : Cert.KernelH.Facts] [hReferenceH : Cert.ReferenceH.Facts] : Prop :=
  ∀ (m : (ℓ : Loc Cert.KernelH.nD Cert.KernelH.τ Cert.KernelH.sig) → Buf (Elt Bits) ℓ) (g : Dev Cert.KernelH.nD → PrngReg)
    (m' : (ℓ : Loc Cert.ReferenceH.nD Cert.ReferenceH.τ Cert.ReferenceH.sig) → Buf (Elt Bits) ℓ) (g' : Dev Cert.ReferenceH.nD → PrngReg), Pre_KernelH m →
    (∀ c : Dev Cert.KernelH.nD,
      m' ((c.tc : Thread Cert.ReferenceH.nD Cert.ReferenceH.τ).loc Cert.ReferenceH.main_arg0) = m ((c.tc : Thread Cert.KernelH.nD Cert.KernelH.τ).loc Cert.KernelH.main_arg0)
      ∧ m' ((c.tc : Thread Cert.ReferenceH.nD Cert.ReferenceH.τ).loc Cert.ReferenceH.main_arg1) = m ((c.tc : Thread Cert.KernelH.nD Cert.KernelH.τ).loc Cert.KernelH.main_arg1)
      ∧ m' ((c.tc : Thread Cert.ReferenceH.nD Cert.ReferenceH.τ).loc Cert.ReferenceH.main_arg2) = m ((c.tc : Thread Cert.KernelH.nD Cert.KernelH.τ).loc Cert.KernelH.main_arg2)
      ∧ m' ((c.tc : Thread Cert.ReferenceH.nD Cert.ReferenceH.τ).loc Cert.ReferenceH.main_arg3) = m ((c.tc : Thread Cert.KernelH.nD Cert.KernelH.τ).loc Cert.KernelH.main_arg3)
      ∧ m' ((c.tc : Thread Cert.ReferenceH.nD Cert.ReferenceH.τ).loc Cert.ReferenceH.main_arg4) = m ((c.tc : Thread Cert.KernelH.nD Cert.KernelH.τ).loc Cert.KernelH.main_arg4)) →
    ∃ (v0 : (c : Dev Cert.KernelH.nD) → Buf (Elt Bits) ((c.tc : Thread Cert.KernelH.nD Cert.KernelH.τ).loc Cert.KernelH.main_v0_0)),
      θ_run (Cert.KernelH.defs (F := Bits)) (onTc (τ := Cert.KernelH.τ) (Cert.KernelH.main (F := Bits))) ⟨m, fun _ => 0, g⟩ (fun r => ∀ c : Dev Cert.KernelH.nD,
          r.2.mem ((c.tc : Thread Cert.KernelH.nD Cert.KernelH.τ).loc Cert.KernelH.main_v0_0) = v0 c
          ∧ r.2.mem ((c.tc : Thread Cert.KernelH.nD Cert.KernelH.τ).loc Cert.KernelH.main_arg0) = m ((c.tc : Thread Cert.KernelH.nD Cert.KernelH.τ).loc Cert.KernelH.main_arg0)
          ∧ r.2.mem ((c.tc : Thread Cert.KernelH.nD Cert.KernelH.τ).loc Cert.KernelH.main_arg1) = m ((c.tc : Thread Cert.KernelH.nD Cert.KernelH.τ).loc Cert.KernelH.main_arg1)
          ∧ r.2.mem ((c.tc : Thread Cert.KernelH.nD Cert.KernelH.τ).loc Cert.KernelH.main_arg2) = m ((c.tc : Thread Cert.KernelH.nD Cert.KernelH.τ).loc Cert.KernelH.main_arg2)
          ∧ r.2.mem ((c.tc : Thread Cert.KernelH.nD Cert.KernelH.τ).loc Cert.KernelH.main_arg3) = m ((c.tc : Thread Cert.KernelH.nD Cert.KernelH.τ).loc Cert.KernelH.main_arg3)
          ∧ r.2.mem ((c.tc : Thread Cert.KernelH.nD Cert.KernelH.τ).loc Cert.KernelH.main_arg4) = m ((c.tc : Thread Cert.KernelH.nD Cert.KernelH.τ).loc Cert.KernelH.main_arg4))
      ∧ θ_run (Cert.ReferenceH.defs (F := Bits)) (onTc (τ := Cert.ReferenceH.τ) (Cert.ReferenceH.main (F := Bits))) ⟨m', fun _ => 0, g'⟩ (fun r => ∀ c : Dev Cert.ReferenceH.nD,
          r.2.mem ((c.tc : Thread Cert.ReferenceH.nD Cert.ReferenceH.τ).loc Cert.ReferenceH.main_v3) = v0 c
          ∧ r.2.mem ((c.tc : Thread Cert.ReferenceH.nD Cert.ReferenceH.τ).loc Cert.ReferenceH.main_arg0) = m' ((c.tc : Thread Cert.ReferenceH.nD Cert.ReferenceH.τ).loc Cert.ReferenceH.main_arg0)
          ∧ r.2.mem ((c.tc : Thread Cert.ReferenceH.nD Cert.ReferenceH.τ).loc Cert.ReferenceH.main_arg1) = m' ((c.tc : Thread Cert.ReferenceH.nD Cert.ReferenceH.τ).loc Cert.ReferenceH.main_arg1)
          ∧ r.2.mem ((c.tc : Thread Cert.ReferenceH.nD Cert.ReferenceH.τ).loc Cert.ReferenceH.main_arg2) = m' ((c.tc : Thread Cert.ReferenceH.nD Cert.ReferenceH.τ).loc Cert.ReferenceH.main_arg2)
          ∧ r.2.mem ((c.tc : Thread Cert.ReferenceH.nD Cert.ReferenceH.τ).loc Cert.ReferenceH.main_arg3) = m' ((c.tc : Thread Cert.ReferenceH.nD Cert.ReferenceH.τ).loc Cert.ReferenceH.main_arg3)
          ∧ r.2.mem ((c.tc : Thread Cert.ReferenceH.nD Cert.ReferenceH.τ).loc Cert.ReferenceH.main_arg4) = m' ((c.tc : Thread Cert.ReferenceH.nD Cert.ReferenceH.τ).loc Cert.ReferenceH.main_arg4))

def Claim : Prop :=
  ∃ (hKernel : Cert.Kernel.Facts) (hKernelIdeal : Cert.KernelIdeal.Facts) (hReferenceIdeal : Cert.ReferenceIdeal.Facts) (hKernelK : Cert.KernelK.Facts) (hKernelKIdeal : Cert.KernelKIdeal.Facts) (hReferenceKIdeal : Cert.ReferenceKIdeal.Facts) (hKernelV : Cert.KernelV.Facts) (hKernelVIdeal : Cert.KernelVIdeal.Facts) (hReferenceVIdeal : Cert.ReferenceVIdeal.Facts) (hKernelH : Cert.KernelH.Facts) (hReferenceH : Cert.ReferenceH.Facts),
    quiescent_Kernel (hKernel := hKernel)
    ∧ quiescent_KernelIdeal (hKernelIdeal := hKernelIdeal)
    ∧ quiescent_ReferenceIdeal (hReferenceIdeal := hReferenceIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelH (hKernelH := hKernelH)
    ∧ quiescent_ReferenceH (hReferenceH := hReferenceH)
    ∧ preserves_Kernel_KernelIdeal
    ∧ algebraic_KernelIdeal_ReferenceIdeal (hKernelIdeal := hKernelIdeal) (hReferenceIdeal := hReferenceIdeal)
    ∧ preserves_KernelK_KernelKIdeal
    ∧ algebraic_KernelKIdeal_ReferenceKIdeal (hKernelKIdeal := hKernelKIdeal) (hReferenceKIdeal := hReferenceKIdeal)
    ∧ preserves_KernelV_KernelVIdeal
    ∧ algebraic_KernelVIdeal_ReferenceVIdeal (hKernelVIdeal := hKernelVIdeal) (hReferenceVIdeal := hReferenceVIdeal)
    ∧ bitexact_KernelH_ReferenceH (hKernelH := hKernelH) (hReferenceH := hReferenceH)
-- ==== Kernel.lean ====
abbrev S1536x8192 : Shape := ⟨2, ![1536, 8192]⟩
abbrev S7168x256x16 : Shape := ⟨3, ![7168, 256, 16]⟩
abbrev S7168x256 : Shape := ⟨2, ![7168, 256]⟩
abbrev S1536x128 : Shape := ⟨2, ![1536, 128]⟩
abbrev S1x128 : Shape := ⟨2, ![1, 128]⟩
abbrev S7168x16x256 : Shape := ⟨3, ![7168, 16, 256]⟩
abbrev S1536x56x128 : Shape := ⟨3, ![1536, 56, 128]⟩
abbrev S1024x16x256 : Shape := ⟨3, ![1024, 16, 256]⟩
abbrev S1024x256 : Shape := ⟨2, ![1024, 256]⟩
abbrev S1536x8x128 : Shape := ⟨3, ![1536, 8, 128]⟩
abbrev S256x8192 : Shape := ⟨2, ![256, 8192]⟩
abbrev S256x16x256 : Shape := ⟨3, ![256, 16, 256]⟩
abbrev S256x4x256 : Shape := ⟨3, ![256, 4, 256]⟩
abbrev S256x1x256 : Shape := ⟨3, ![256, 1, 256]⟩
abbrev S256x256 : Shape := ⟨2, ![256, 256]⟩
abbrev S1536x256 : Shape := ⟨2, ![1536, 256]⟩
abbrev S128x128 : Shape := ⟨2, ![128, 128]⟩
abbrev S128 : Shape := ⟨1, ![128]⟩
abbrev S128x1 : Shape := ⟨2, ![128, 1]⟩
abbrev S1536x4x128 : Shape := ⟨3, ![1536, 4, 128]⟩
abbrev S6144x128 : Shape := ⟨2, ![6144, 128]⟩
abbrev S128x2x128 : Shape := ⟨3, ![128, 2, 128]⟩
abbrev S128x1x128 : Shape := ⟨3, ![128, 1, 128]⟩

abbrev nBuf : Space → Nat
  | .hbm => 8
  | .vmem => 11
  | .smem => 0
  | _ => 0

abbrev bufTy : (tb : Table) → Fin (tcTables nBuf tb) → BufTy
  | .hbm, ⟨0, _⟩ => ⟨S1536x8192, .bf16⟩
  | .hbm, ⟨1, _⟩ => ⟨S7168x256x16, .i8⟩
  | .hbm, ⟨2, _⟩ => ⟨S7168x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S7168x16x256, .i8⟩
  | .hbm, ⟨7, _⟩ => ⟨S1536x56x128, .bf16⟩
  | .local _ .vmem, ⟨0, _⟩ => ⟨S1536x8192, .bf16⟩
  | .local _ .vmem, ⟨1, _⟩ => ⟨S1024x16x256, .i8⟩
  | .local _ .vmem, ⟨2, _⟩ => ⟨S1024x16x256, .i8⟩
  | .local _ .vmem, ⟨3, _⟩ => ⟨S1024x256, .bf16⟩
  | .local _ .vmem, ⟨4, _⟩ => ⟨S1024x256, .bf16⟩
  | .local _ .vmem, ⟨5, _⟩ => ⟨S1536x128, .f32⟩
  | .local _ .vmem, ⟨6, _⟩ => ⟨S1536x128, .f32⟩
  | .local _ .vmem, ⟨7, _⟩ => ⟨S1x128, .f32⟩
  | .local _ .vmem, ⟨8, _⟩ => ⟨S1536x8x128, .bf16⟩
  | .local _ .vmem, ⟨9, _⟩ => ⟨S1536x8x128, .bf16⟩
  | .local _ .vmem, ⟨10, _⟩ => ⟨S256x8192, .bf16⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x16x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1536x8192 : Shape := ⟨2, ![1536, 8192]⟩
abbrev S7168x256x16 : Shape := ⟨3, ![7168, 256, 16]⟩
abbrev S7168x256 : Shape := ⟨2, ![7168, 256]⟩
abbrev S1536x128 : Shape := ⟨2, ![1536, 128]⟩
abbrev S1x128 : Shape := ⟨2, ![1, 128]⟩
abbrev S7168x16x256 : Shape := ⟨3, ![7168, 16, 256]⟩
abbrev S1536x56x128 : Shape := ⟨3, ![1536, 56, 128]⟩
abbrev S1024x16x256 : Shape := ⟨3, ![1024, 16, 256]⟩
abbrev S1024x256 : Shape := ⟨2, ![1024, 256]⟩
abbrev S1536x8x128 : Shape := ⟨3, ![1536, 8, 128]⟩
abbrev S256x8192 : Shape := ⟨2, ![256, 8192]⟩
abbrev S256x16x256 : Shape := ⟨3, ![256, 16, 256]⟩
abbrev S256x4x256 : Shape := ⟨3, ![256, 4, 256]⟩
abbrev S256x1x256 : Shape := ⟨3, ![256, 1, 256]⟩
abbrev S256x256 : Shape := ⟨2, ![256, 256]⟩
abbrev S1536x256 : Shape := ⟨2, ![1536, 256]⟩
abbrev S128x128 : Shape := ⟨2, ![128, 128]⟩
abbrev S128 : Shape := ⟨1, ![128]⟩
abbrev S128x1 : Shape := ⟨2, ![128, 1]⟩
abbrev S1536x4x128 : Shape := ⟨3, ![1536, 4, 128]⟩
abbrev S6144x128 : Shape := ⟨2, ![6144, 128]⟩
abbrev S128x2x128 : Shape := ⟨3, ![128, 2, 128]⟩
abbrev S128x1x128 : Shape := ⟨3, ![128, 1, 128]⟩

abbrev nBuf : Space → Nat
  | .hbm => 8
  | .vmem => 11
  | .smem => 0
  | _ => 0

abbrev bufTy : (tb : Table) → Fin (tcTables nBuf tb) → BufTy
  | .hbm, ⟨0, _⟩ => ⟨S1536x8192, .bf16⟩
  | .hbm, ⟨1, _⟩ => ⟨S7168x256x16, .i8⟩
  | .hbm, ⟨2, _⟩ => ⟨S7168x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S7168x16x256, .i8⟩
  | .hbm, ⟨7, _⟩ => ⟨S1536x56x128, .bf16⟩
  | .local _ .vmem, ⟨0, _⟩ => ⟨S1536x8192, .bf16⟩
  | .local _ .vmem, ⟨1, _⟩ => ⟨S1024x16x256, .i8⟩
  | .local _ .vmem, ⟨2, _⟩ => ⟨S1024x16x256, .i8⟩
  | .local _ .vmem, ⟨3, _⟩ => ⟨S1024x256, .bf16⟩
  | .local _ .vmem, ⟨4, _⟩ => ⟨S1024x256, .bf16⟩
  | .local _ .vmem, ⟨5, _⟩ => ⟨S1536x128, .f32⟩
  | .local _ .vmem, ⟨6, _⟩ => ⟨S1536x128, .f32⟩
  | .local _ .vmem, ⟨7, _⟩ => ⟨S1x128, .f32⟩
  | .local _ .vmem, ⟨8, _⟩ => ⟨S1536x8x128, .bf16⟩
  | .local _ .vmem, ⟨9, _⟩ => ⟨S1536x8x128, .bf16⟩
  | .local _ .vmem, ⟨10, _⟩ => ⟨S256x8192, .bf16⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x16x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1536x8192 : Shape := ⟨2, ![1536, 8192]⟩
abbrev S7168x256x16 : Shape := ⟨3, ![7168, 256, 16]⟩
abbrev S7168x256 : Shape := ⟨2, ![7168, 256]⟩
abbrev S1536x128 : Shape := ⟨2, ![1536, 128]⟩
abbrev S1x128 : Shape := ⟨2, ![1, 128]⟩
abbrev S1536x32x256 : Shape := ⟨3, ![1536, 32, 256]⟩
abbrev S1536x16x256 : Shape := ⟨3, ![1536, 16, 256]⟩
abbrev S7168x256x1 : Shape := ⟨3, ![7168, 256, 1]⟩
abbrev S_ : Shape := ⟨0, ![]⟩
abbrev S1536x7168 : Shape := ⟨2, ![1536, 7168]⟩
abbrev S1536x56x128 : Shape := ⟨3, ![1536, 56, 128]⟩
abbrev S1536x56 : Shape := ⟨2, ![1536, 56]⟩
abbrev S1536x56x1 : Shape := ⟨3, ![1536, 56, 1]⟩
abbrev S1x1x128 : Shape := ⟨3, ![1, 1, 128]⟩
abbrev S1536x56x64x2 : Shape := ⟨4, ![1536, 56, 64, 2]⟩
abbrev S1536x56x64x1 : Shape := ⟨4, ![1536, 56, 64, 1]⟩
abbrev S1536x56x64 : Shape := ⟨3, ![1536, 56, 64]⟩
abbrev S1536x1x64x2 : Shape := ⟨4, ![1536, 1, 64, 2]⟩
abbrev S1536x1x64x1 : Shape := ⟨4, ![1536, 1, 64, 1]⟩
abbrev S1536x1x64 : Shape := ⟨3, ![1536, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S7168x256x16, .i8⟩
  | .hbm, ⟨2, _⟩ => ⟨S7168x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S1536x32x256, .bf16⟩
  | .hbm, ⟨7, _⟩ => ⟨S1536x16x256, .bf16⟩
  | .hbm, ⟨8, _⟩ => ⟨S1536x16x256, .bf16⟩
  | .hbm, ⟨9, _⟩ => ⟨S7168x256x1, .bf16⟩
  | .hbm, ⟨10, _⟩ => ⟨S7168x256x16, .i32⟩
  | .hbm, ⟨11, _⟩ => ⟨S_, .i32⟩
  | .hbm, ⟨12, _⟩ => ⟨S7168x256x16, .i32⟩
  | .hbm, ⟨13, _⟩ => ⟨S7168x256x16, .i32⟩
  | .hbm, ⟨14, _⟩ => ⟨S7168x256x16, .bf16⟩
  | .hbm, ⟨15, _⟩ => ⟨S_, .bf16⟩
  | .hbm, ⟨16, _⟩ => ⟨S7168x256x16, .bf16⟩
  | .hbm, ⟨17, _⟩ => ⟨S7168x256x16, .bf16⟩
  | .hbm, ⟨18, _⟩ => ⟨S7168x256x16, .bf16⟩
  | .hbm, ⟨19, _⟩ => ⟨S7168x256x16, .bf16⟩
  | .hbm, ⟨20, _⟩ => ⟨S_, .i32⟩
  | .hbm, ⟨21, _⟩ => ⟨S7168x256x16, .i32⟩
  | .hbm, ⟨22, _⟩ => ⟨S7168x256x16, .i32⟩
  | .hbm, ⟨23, _⟩ => ⟨S7168x256x16, .bf16⟩
  | .hbm, ⟨24, _⟩ => ⟨S_, .bf16⟩
  | .hbm, ⟨25, _⟩ => ⟨S7168x256x16, .bf16⟩
  | .hbm, ⟨26, _⟩ => ⟨S7168x256x16, .bf16⟩
  | .hbm, ⟨27, _⟩ => ⟨S7168x256x16, .bf16⟩
  | .hbm, ⟨28, _⟩ => ⟨S7168x256x16, .bf16⟩
  | .hbm, ⟨29, _⟩ => ⟨S1536x7168, .f32⟩
  | .hbm, ⟨30, _⟩ => ⟨S1536x7168, .f32⟩
  | .hbm, ⟨31, _⟩ => ⟨S1536x7168, .f32⟩
  | .hbm, ⟨32, _⟩ => ⟨S1536x56x128, .f32⟩
  | .hbm, ⟨33, _⟩ => ⟨S1536x56x128, .f32⟩
  | .hbm, ⟨34, _⟩ => ⟨S_, .f32⟩
  | .hbm, ⟨35, _⟩ => ⟨S1536x56, .f32⟩
  | .hbm, ⟨36, _⟩ => ⟨S1536x56x1, .f32⟩
  | .hbm, ⟨37, _⟩ => ⟨S_, .f32⟩
  | .hbm, ⟨38, _⟩ => ⟨S1536x56x1, .f32⟩
  | .hbm, ⟨39, _⟩ => ⟨S1536x56x1, .f32⟩
  | .hbm, ⟨40, _⟩ => ⟨S_, .f32⟩
  | .hbm, ⟨41, _⟩ => ⟨S1536x56x1, .f32⟩
  | .hbm, ⟨42, _⟩ => ⟨S1536x56x1, .f32⟩
  | .hbm, ⟨43, _⟩ => ⟨S1536x56x1, .f32⟩
  | .hbm, ⟨44, _⟩ => ⟨S1536x56x128, .f32⟩
  | .hbm, ⟨45, _⟩ => ⟨S1536x56x128, .f32⟩
  | .hbm, ⟨46, _⟩ => ⟨S1x1x128, .f32⟩
  | .hbm, ⟨47, _⟩ => ⟨S1536x56x128, .f32⟩
  | .hbm, ⟨48, _⟩ => ⟨S1536x56x128, .f32⟩
  | .hbm, ⟨49, _⟩ => ⟨S1536x56x64x2, .f32⟩
  | .hbm, ⟨50, _⟩ => ⟨S1536x56x64x1, .f32⟩
  | .hbm, ⟨51, _⟩ => ⟨S1536x56x64, .f32⟩
  | .hbm, ⟨52, _⟩ => ⟨S1536x56x64x1, .f32⟩
  | .hbm, ⟨53, _⟩ => ⟨S1536x56x64, .f32⟩
  | .hbm, ⟨54, _⟩ => ⟨S1536x1x64x2, .f32⟩
  | .hbm, ⟨55, _⟩ => ⟨S1536x1x64x2, .f32⟩
  | .hbm, ⟨56, _⟩ => ⟨S1536x1x64x1, .f32⟩
  | .hbm, ⟨57, _⟩ => ⟨S1536x1x64, .f32⟩
  | .hbm, ⟨58, _⟩ => ⟨S1536x56x64, .f32⟩
  | .hbm, ⟨59, _⟩ => ⟨S1536x56x64, .f32⟩
  | .hbm, ⟨60, _⟩ => ⟨S1536x1x64x1, .f32⟩
  | .hbm, ⟨61, _⟩ => ⟨S1536x1x64, .f32⟩
  | .hbm, ⟨62, _⟩ => ⟨S1536x56x64, .f32⟩
  | .hbm, ⟨63, _⟩ => ⟨S1536x56x64, .f32⟩
  | .hbm, ⟨64, _⟩ => ⟨S1536x56x64, .f32⟩
  | .hbm, ⟨65, _⟩ => ⟨S1536x1x64x1, .f32⟩
  | .hbm, ⟨66, _⟩ => ⟨S1536x1x64, .f32⟩
  | .hbm, ⟨67, _⟩ => ⟨S1536x56x64, .f32⟩
  | .hbm, ⟨68, _⟩ => ⟨S1536x56x64, .f32⟩
  | .hbm, ⟨69, _⟩ => ⟨S1536x1x64x1, .f32⟩
  | .hbm, ⟨70, _⟩ => ⟨S1536x1x64, .f32⟩
  | .hbm, ⟨71, _⟩ => ⟨S1536x56x64, .f32⟩
  | .hbm, ⟨72, _⟩ => ⟨S1536x56x64, .f32⟩
  | .hbm, ⟨73, _⟩ => ⟨S1536x56x64, .f32⟩
  | .hbm, ⟨74, _⟩ => ⟨S1536x56x64x1, .f32⟩
  | .hbm, ⟨75, _⟩ => ⟨S1536x56x64x1, .f32⟩
  | .hbm, ⟨76, _⟩ => ⟨S1536x56x64x2, .f32⟩
  | .hbm, ⟨77, _⟩ => ⟨S1536x56x128, .f32⟩
  | .hbm, ⟨78, _⟩ => ⟨S1536x56x128, .bf16⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== KernelK.lean ====
abbrev S1536x8192 : Shape := ⟨2, ![1536, 8192]⟩
abbrev S1024x256x16 : Shape := ⟨3, ![1024, 256, 16]⟩
abbrev S1024x256 : Shape := ⟨2, ![1024, 256]⟩
abbrev S1536x128 : Shape := ⟨2, ![1536, 128]⟩
abbrev S1x128 : Shape := ⟨2, ![1, 128]⟩
abbrev S1024x16x256 : Shape := ⟨3, ![1024, 16, 256]⟩
abbrev S1536x8x128 : Shape := ⟨3, ![1536, 8, 128]⟩
abbrev S256x8192 : Shape := ⟨2, ![256, 8192]⟩
abbrev S256x16x256 : Shape := ⟨3, ![256, 16, 256]⟩
abbrev S256x4x256 : Shape := ⟨3, ![256, 4, 256]⟩
abbrev S256x1x256 : Shape := ⟨3, ![256, 1, 256]⟩
abbrev S256x256 : Shape := ⟨2, ![256, 256]⟩
abbrev S1536x256 : Shape := ⟨2, ![1536, 256]⟩
abbrev S128x128 : Shape := ⟨2, ![128, 128]⟩
abbrev S128 : Shape := ⟨1, ![128]⟩
abbrev S128x1 : Shape := ⟨2, ![128, 1]⟩
abbrev S1536x4x128 : Shape := ⟨3, ![1536, 4, 128]⟩
abbrev S6144x128 : Shape := ⟨2, ![6144, 128]⟩
abbrev S128x2x128 : Shape := ⟨3, ![128, 2, 128]⟩
abbrev S128x1x128 : Shape := ⟨3, ![128, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1536x8192, .bf16⟩
  | .hbm, ⟨1, _⟩ => ⟨S1024x256x16, .i8⟩
  | .hbm, ⟨2, _⟩ => ⟨S1024x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S1024x16x256, .i8⟩
  | .hbm, ⟨7, _⟩ => ⟨S1536x8x128, .bf16⟩
  | .local _ .vmem, ⟨0, _⟩ => ⟨S1536x8192, .bf16⟩
  | .local _ .vmem, ⟨1, _⟩ => ⟨S1024x16x256, .i8⟩
  | .local _ .vmem, ⟨2, _⟩ => ⟨S1024x256, .bf16⟩
  | .local _ .vmem, ⟨3, _⟩ => ⟨S1536x128, .f32⟩
  | .local _ .vmem, ⟨4, _⟩ => ⟨S1536x128, .f32⟩
  | .local _ .vmem, ⟨5, _⟩ => ⟨S1x128, .f32⟩
  | .local _ .vmem, ⟨6, _⟩ => ⟨S1536x8x128, .bf16⟩
  | .local _ .vmem, ⟨7, _⟩ => ⟨S256x8192, .bf16⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelKIdeal.lean ====
variable {F : FTy → Type} [FloatOps F]
-- ==== ReferenceKIdeal.lean ====
abbrev S1536x8192 : Shape := ⟨2, ![1536, 8192]⟩
abbrev S1024x256x16 : Shape := ⟨3, ![1024, 256, 16]⟩
abbrev S1024x256 : Shape := ⟨2, ![1024, 256]⟩
abbrev S1536x128 : Shape := ⟨2, ![1536, 128]⟩
abbrev S1x128 : Shape := ⟨2, ![1, 128]⟩
abbrev S1536x32x256 : Shape := ⟨3, ![1536, 32, 256]⟩
abbrev S1536x16x256 : Shape := ⟨3, ![1536, 16, 256]⟩
abbrev S1024x256x1 : Shape := ⟨3, ![1024, 256, 1]⟩
abbrev S_ : Shape := ⟨0, ![]⟩
abbrev S1536x1024 : Shape := ⟨2, ![1536, 1024]⟩
abbrev S1536x8x128 : Shape := ⟨3, ![1536, 8, 128]⟩
abbrev S1536x8 : Shape := ⟨2, ![1536, 8]⟩
abbrev S1536x8x1 : Shape := ⟨3, ![1536, 8, 1]⟩
abbrev S1x1x128 : Shape := ⟨3, ![1, 1, 128]⟩
abbrev S1536x8x64x2 : Shape := ⟨4, ![1536, 8, 64, 2]⟩
abbrev S1536x8x64x1 : Shape := ⟨4, ![1536, 8, 64, 1]⟩
abbrev S1536x8x64 : Shape := ⟨3, ![1536, 8, 64]⟩
abbrev S1536x1x64x2 : Shape := ⟨4, ![1536, 1, 64, 2]⟩
abbrev S1536x1x64x1 : Shape := ⟨4, ![1536, 1, 64, 1]⟩
abbrev S1536x1x64 : Shape := ⟨3, ![1536, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S1024x256x16, .i8⟩
  | .hbm, ⟨2, _⟩ => ⟨S1024x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S1536x32x256, .bf16⟩
  | .hbm, ⟨7, _⟩ => ⟨S1536x16x256, .bf16⟩
  | .hbm, ⟨8, _⟩ => ⟨S1536x16x256, .bf16⟩
  | .hbm, ⟨9, _⟩ => ⟨S1024x256x1, .bf16⟩
  | .hbm, ⟨10, _⟩ => ⟨S1024x256x16, .i32⟩
  | .hbm, ⟨11, _⟩ => ⟨S_, .i32⟩
  | .hbm, ⟨12, _⟩ => ⟨S1024x256x16, .i32⟩
  | .hbm, ⟨13, _⟩ => ⟨S1024x256x16, .i32⟩
  | .hbm, ⟨14, _⟩ => ⟨S1024x256x16, .bf16⟩
  | .hbm, ⟨15, _⟩ => ⟨S_, .bf16⟩
  | .hbm, ⟨16, _⟩ => ⟨S1024x256x16, .bf16⟩
  | .hbm, ⟨17, _⟩ => ⟨S1024x256x16, .bf16⟩
  | .hbm, ⟨18, _⟩ => ⟨S1024x256x16, .bf16⟩
  | .hbm, ⟨19, _⟩ => ⟨S1024x256x16, .bf16⟩
  | .hbm, ⟨20, _⟩ => ⟨S_, .i32⟩
  | .hbm, ⟨21, _⟩ => ⟨S1024x256x16, .i32⟩
  | .hbm, ⟨22, _⟩ => ⟨S1024x256x16, .i32⟩
  | .hbm, ⟨23, _⟩ => ⟨S1024x256x16, .bf16⟩
  | .hbm, ⟨24, _⟩ => ⟨S_, .bf16⟩
  | .hbm, ⟨25, _⟩ => ⟨S1024x256x16, .bf16⟩
  | .hbm, ⟨26, _⟩ => ⟨S1024x256x16, .bf16⟩
  | .hbm, ⟨27, _⟩ => ⟨S1024x256x16, .bf16⟩
  | .hbm, ⟨28, _⟩ => ⟨S1024x256x16, .bf16⟩
  | .hbm, ⟨29, _⟩ => ⟨S1536x1024, .f32⟩
  | .hbm, ⟨30, _⟩ => ⟨S1536x1024, .f32⟩
  | .hbm, ⟨31, _⟩ => ⟨S1536x1024, .f32⟩
  | .hbm, ⟨32, _⟩ => ⟨S1536x8x128, .f32⟩
  | .hbm, ⟨33, _⟩ => ⟨S1536x8x128, .f32⟩
  | .hbm, ⟨34, _⟩ => ⟨S_, .f32⟩
  | .hbm, ⟨35, _⟩ => ⟨S1536x8, .f32⟩
  | .hbm, ⟨36, _⟩ => ⟨S1536x8x1, .f32⟩
  | .hbm, ⟨37, _⟩ => ⟨S_, .f32⟩
  | .hbm, ⟨38, _⟩ => ⟨S1536x8x1, .f32⟩
  | .hbm, ⟨39, _⟩ => ⟨S1536x8x1, .f32⟩
  | .hbm, ⟨40, _⟩ => ⟨S_, .f32⟩
  | .hbm, ⟨41, _⟩ => ⟨S1536x8x1, .f32⟩
  | .hbm, ⟨42, _⟩ => ⟨S1536x8x1, .f32⟩
  | .hbm, ⟨43, _⟩ => ⟨S1536x8x1, .f32⟩
  | .hbm, ⟨44, _⟩ => ⟨S1536x8x128, .f32⟩
  | .hbm, ⟨45, _⟩ => ⟨S1536x8x128, .f32⟩
  | .hbm, ⟨46, _⟩ => ⟨S1x1x128, .f32⟩
  | .hbm, ⟨47, _⟩ => ⟨S1536x8x128, .f32⟩
  | .hbm, ⟨48, _⟩ => ⟨S1536x8x128, .f32⟩
  | .hbm, ⟨49, _⟩ => ⟨S1536x8x64x2, .f32⟩
  | .hbm, ⟨50, _⟩ => ⟨S1536x8x64x1, .f32⟩
  | .hbm, ⟨51, _⟩ => ⟨S1536x8x64, .f32⟩
  | .hbm, ⟨52, _⟩ => ⟨S1536x8x64x1, .f32⟩
  | .hbm, ⟨53, _⟩ => ⟨S1536x8x64, .f32⟩
  | .hbm, ⟨54, _⟩ => ⟨S1536x1x64x2, .f32⟩
  | .hbm, ⟨55, _⟩ => ⟨S1536x1x64x2, .f32⟩
  | .hbm, ⟨56, _⟩ => ⟨S1536x1x64x1, .f32⟩
  | .hbm, ⟨57, _⟩ => ⟨S1536x1x64, .f32⟩
  | .hbm, ⟨58, _⟩ => ⟨S1536x8x64, .f32⟩
  | .hbm, ⟨59, _⟩ => ⟨S1536x8x64, .f32⟩
  | .hbm, ⟨60, _⟩ => ⟨S1536x1x64x1, .f32⟩
  | .hbm, ⟨61, _⟩ => ⟨S1536x1x64, .f32⟩
  | .hbm, ⟨62, _⟩ => ⟨S1536x8x64, .f32⟩
  | .hbm, ⟨63, _⟩ => ⟨S1536x8x64, .f32⟩
  | .hbm, ⟨64, _⟩ => ⟨S1536x8x64, .f32⟩
  | .hbm, ⟨65, _⟩ => ⟨S1536x1x64x1, .f32⟩
  | .hbm, ⟨66, _⟩ => ⟨S1536x1x64, .f32⟩
  | .hbm, ⟨67, _⟩ => ⟨S1536x8x64, .f32⟩
  | .hbm, ⟨68, _⟩ => ⟨S1536x8x64, .f32⟩
  | .hbm, ⟨69, _⟩ => ⟨S1536x1x64x1, .f32⟩
  | .hbm, ⟨70, _⟩ => ⟨S1536x1x64, .f32⟩
  | .hbm, ⟨71, _⟩ => ⟨S1536x8x64, .f32⟩
  | .hbm, ⟨72, _⟩ => ⟨S1536x8x64, .f32⟩
  | .hbm, ⟨73, _⟩ => ⟨S1536x8x64, .f32⟩
  | .hbm, ⟨74, _⟩ => ⟨S1536x8x64x1, .f32⟩
  | .hbm, ⟨75, _⟩ => ⟨S1536x8x64x1, .f32⟩
  | .hbm, ⟨76, _⟩ => ⟨S1536x8x64x2, .f32⟩
  | .hbm, ⟨77, _⟩ => ⟨S1536x8x128, .f32⟩
  | .hbm, ⟨78, _⟩ => ⟨S1536x8x128, .bf16⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== KernelV.lean ====
abbrev S1536x8192 : Shape := ⟨2, ![1536, 8192]⟩
abbrev S1024x256x16 : Shape := ⟨3, ![1024, 256, 16]⟩
abbrev S1024x256 : Shape := ⟨2, ![1024, 256]⟩
abbrev S1536x128 : Shape := ⟨2, ![1536, 128]⟩
abbrev S1x128 : Shape := ⟨2, ![1, 128]⟩
abbrev S1024x16x256 : Shape := ⟨3, ![1024, 16, 256]⟩
abbrev S1536x8x128 : Shape := ⟨3, ![1536, 8, 128]⟩
abbrev S256x8192 : Shape := ⟨2, ![256, 8192]⟩
abbrev S256x16x256 : Shape := ⟨3, ![256, 16, 256]⟩
abbrev S256x4x256 : Shape := ⟨3, ![256, 4, 256]⟩
abbrev S256x1x256 : Shape := ⟨3, ![256, 1, 256]⟩
abbrev S256x256 : Shape := ⟨2, ![256, 256]⟩
abbrev S1536x256 : Shape := ⟨2, ![1536, 256]⟩
abbrev S128x128 : Shape := ⟨2, ![128, 128]⟩
abbrev S1536x4x128 : Shape := ⟨3, ![1536, 4, 128]⟩
abbrev S6144x128 : Shape := ⟨2, ![6144, 128]⟩
abbrev S128x2x128 : Shape := ⟨3, ![128, 2, 128]⟩
abbrev S128x1x128 : Shape := ⟨3, ![128, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1536x8192, .bf16⟩
  | .hbm, ⟨1, _⟩ => ⟨S1024x256x16, .i8⟩
  | .hbm, ⟨2, _⟩ => ⟨S1024x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S1024x16x256, .i8⟩
  | .hbm, ⟨7, _⟩ => ⟨S1536x8x128, .bf16⟩
  | .local _ .vmem, ⟨0, _⟩ => ⟨S1536x8192, .bf16⟩
  | .local _ .vmem, ⟨1, _⟩ => ⟨S1024x16x256, .i8⟩
  | .local _ .vmem, ⟨2, _⟩ => ⟨S1024x256, .bf16⟩
  | .local _ .vmem, ⟨3, _⟩ => ⟨S1536x128, .f32⟩
  | .local _ .vmem, ⟨4, _⟩ => ⟨S1536x128, .f32⟩
  | .local _ .vmem, ⟨5, _⟩ => ⟨S1x128, .f32⟩
  | .local _ .vmem, ⟨6, _⟩ => ⟨S1536x8x128, .bf16⟩
  | .local _ .vmem, ⟨7, _⟩ => ⟨S256x8192, .bf16⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelVIdeal.lean ====
variable {F : FTy → Type} [FloatOps F]
-- ==== ReferenceVIdeal.lean ====
abbrev S1536x8192 : Shape := ⟨2, ![1536, 8192]⟩
abbrev S1024x256x16 : Shape := ⟨3, ![1024, 256, 16]⟩
abbrev S1024x256 : Shape := ⟨2, ![1024, 256]⟩
abbrev S1536x128 : Shape := ⟨2, ![1536, 128]⟩
abbrev S1x128 : Shape := ⟨2, ![1, 128]⟩
abbrev S1536x32x256 : Shape := ⟨3, ![1536, 32, 256]⟩
abbrev S1536x16x256 : Shape := ⟨3, ![1536, 16, 256]⟩
abbrev S1024x256x1 : Shape := ⟨3, ![1024, 256, 1]⟩
abbrev S_ : Shape := ⟨0, ![]⟩
abbrev S1536x1024 : Shape := ⟨2, ![1536, 1024]⟩
abbrev S1536x8x128 : Shape := ⟨3, ![1536, 8, 128]⟩

abbrev nBuf : Space → Nat
  | .hbm => 34
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S1024x256x16, .i8⟩
  | .hbm, ⟨2, _⟩ => ⟨S1024x256, .bf16⟩
  | .hbm, ⟨3, _⟩ => ⟨S1536x128, .f32⟩
  | .hbm, ⟨4, _⟩ => ⟨S1536x128, .f32⟩
  | .hbm, ⟨5, _⟩ => ⟨S1x128, .f32⟩
  | .hbm, ⟨6, _⟩ => ⟨S1536x32x256, .bf16⟩
  | .hbm, ⟨7, _⟩ => ⟨S1536x16x256, .bf16⟩
  | .hbm, ⟨8, _⟩ => ⟨S1536x16x256, .bf16⟩
  | .hbm, ⟨9, _⟩ => ⟨S1024x256x1, .bf16⟩
  | .hbm, ⟨10, _⟩ => ⟨S1024x256x16, .i32⟩
  | .hbm, ⟨11, _⟩ => ⟨S_, .i32⟩
  | .hbm, ⟨12, _⟩ => ⟨S1024x256x16, .i32⟩
  | .hbm, ⟨13, _⟩ => ⟨S1024x256x16, .i32⟩
  | .hbm, ⟨14, _⟩ => ⟨S1024x256x16, .bf16⟩
  | .hbm, ⟨15, _⟩ => ⟨S_, .bf16⟩
  | .hbm, ⟨16, _⟩ => ⟨S1024x256x16, .bf16⟩
  | .hbm, ⟨17, _⟩ => ⟨S1024x256x16, .bf16⟩
  | .hbm, ⟨18, _⟩ => ⟨S1024x256x16, .bf16⟩
  | .hbm, ⟨19, _⟩ => ⟨S1024x256x16, .bf16⟩
  | .hbm, ⟨20, _⟩ => ⟨S_, .i32⟩
  | .hbm, ⟨21, _⟩ => ⟨S1024x256x16, .i32⟩
  | .hbm, ⟨22, _⟩ => ⟨S1024x256x16, .i32⟩
  | .hbm, ⟨23, _⟩ => ⟨S1024x256x16, .bf16⟩
  | .hbm, ⟨24, _⟩ => ⟨S_, .bf16⟩
  | .hbm, ⟨25, _⟩ => ⟨S1024x256x16, .bf16⟩
  | .hbm, ⟨26, _⟩ => ⟨S1024x256x16, .bf16⟩
  | .hbm, ⟨27, _⟩ => ⟨S1024x256x16, .bf16⟩
  | .hbm, ⟨28, _⟩ => ⟨S1024x256x16, .bf16⟩
  | .hbm, ⟨29, _⟩ => ⟨S1536x1024, .f32⟩
  | .hbm, ⟨30, _⟩ => ⟨S1536x1024, .f32⟩
  | .hbm, ⟨31, _⟩ => ⟨S1536x1024, .f32⟩
  | .hbm, ⟨32, _⟩ => ⟨S1536x8x128, .f32⟩
  | .hbm, ⟨33, _⟩ => ⟨S1536x8x128, .bf16⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== KernelH.lean ====
abbrev S1536x8192 : Shape := ⟨2, ![1536, 8192]⟩
abbrev S1x8192 : Shape := ⟨2, ![1, 8192]⟩
abbrev S6x1x256 : Shape := ⟨3, ![6, 1, 256]⟩
abbrev S1x128 : Shape := ⟨2, ![1, 128]⟩
abbrev S1536x128 : Shape := ⟨2, ![1536, 128]⟩
abbrev S256x8192 : Shape := ⟨2, ![256, 8192]⟩
abbrev S1x1x256 : Shape := ⟨3, ![1, 1, 256]⟩
abbrev S256x128 : Shape := ⟨2, ![256, 128]⟩
abbrev S8448x128 : Shape := ⟨2, ![8448, 128]⟩
abbrev S16x128 : Shape := ⟨2, ![16, 128]⟩
abbrev S16x1024 : Shape := ⟨2, ![16, 1024]⟩
abbrev S16 : Shape := ⟨1, ![16]⟩
abbrev S16x1 : Shape := ⟨2, ![16, 1]⟩
abbrev S1x1024 : Shape := ⟨2, ![1, 1024]⟩
abbrev S128x128 : Shape := ⟨2, ![128, 128]⟩
abbrev S32x128 : Shape := ⟨2, ![32, 128]⟩
abbrev S1x256 : Shape := ⟨2, ![1, 256]⟩

abbrev nBuf : Space → Nat
  | .hbm => 9
  | .vmem => 18
  | .smem => 0
  | _ => 0

abbrev bufTy : (tb : Table) → Fin (tcTables nBuf tb) → BufTy
  | .hbm, ⟨0, _⟩ => ⟨S1536x8192, .bf16⟩
  | .hbm, ⟨1, _⟩ => ⟨S1536x8192, .bf16⟩
  | .hbm, ⟨2, _⟩ => ⟨S1x8192, .f32⟩
  | .hbm, ⟨3, _⟩ => ⟨S6x1x256, .i32⟩
  | .hbm, ⟨4, _⟩ => ⟨S1x128, .f32⟩
  | .hbm, ⟨5, _⟩ => ⟨S1536x8192, .bf16⟩
  | .hbm, ⟨6, _⟩ => ⟨S1536x8192, .bf16⟩
  | .hbm, ⟨7, _⟩ => ⟨S1536x128, .f32⟩
  | .hbm, ⟨8, _⟩ => ⟨S1536x128, .f32⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S1x8192, .f32⟩
  | .local _ .vmem, ⟨5, _⟩ => ⟨S1x1x256, .i32⟩
  | .local _ .vmem, ⟨6, _⟩ => ⟨S1x1x256, .i32⟩
  | .local _ .vmem, ⟨7, _⟩ => ⟨S1x128, .f32⟩
  | .local _ .vmem, ⟨8, _⟩ => ⟨S256x8192, .bf16⟩
  | .local _ .vmem, ⟨9, _⟩ => ⟨S256x8192, .bf16⟩
  | .local _ .vmem, ⟨10, _⟩ => ⟨S256x8192, .bf16⟩
  | .local _ .vmem, ⟨11, _⟩ => ⟨S256x8192, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x8192, .bf16⟩
  | .local _ .vmem, ⟨17, _⟩ => ⟨S8448x128, .i32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![6], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  v1514
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1517 : Index := Scalar.indexCast v1515
  let c0_541 : Index := 0#32
  ![v1517.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1545 : Index := Scalar.indexCast v1515
  let c1024_544 : Index := 1024#32
  ![v1545.toNat, 1024]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1573 : Index := Scalar.indexCast v1515
  let c2048_547 : Index := 2048#32
  ![v1573.toNat, 2048]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1601 : Index := Scalar.indexCast v1515
  let c3072_550 : Index := 3072#32
  ![v1601.toNat, 3072]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1629 : Index := Scalar.indexCast v1515
  let c4096_553 : Index := 4096#32
  ![v1629.toNat, 4096]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1657 : Index := Scalar.indexCast v1515
  let c5120_556 : Index := 5120#32
  ![v1657.toNat, 5120]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1685 : Index := Scalar.indexCast v1515
  let c6144_559 : Index := 6144#32
  ![v1685.toNat, 6144]
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_539 : BitVec 32 := 16#32
  let v1514 : BitVec 32 := Scalar.muli arg12 c16_i32_539
  let v1515 : BitVec 32 := v1514
  let v1713 : Index := Scalar.indexCast v1515
  let c7168_562 : Index := 7168#32
  ![v1713.toNat, 7168]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceH.lean ====
abbrev S1536x8192 : Shape := ⟨2, ![1536, 8192]⟩
abbrev S1x8192 : Shape := ⟨2, ![1, 8192]⟩
abbrev S6x1x256 : Shape := ⟨3, ![6, 1, 256]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S1536x8192, .bf16⟩
  | .hbm, ⟨2, _⟩ => ⟨S1x8192, .f32⟩
  | .hbm, ⟨3, _⟩ => ⟨S6x1x256, .i32⟩
  | .hbm, ⟨4, _⟩ => ⟨S1x128, .f32⟩
  | .hbm, ⟨5, _⟩ => ⟨S1536x8192, .f32⟩
  | .hbm, ⟨6, _⟩ => ⟨S1536x8192, .f32⟩
  | .hbm, ⟨7, _⟩ => ⟨S1536x8192, .f32⟩
  | .hbm, ⟨8, _⟩ => ⟨S1536x8192, .bf16⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Proof.Proj.Tile.lean ====
module

public import Idealize.ShloMosaic.Lib.Pointwise
public import Idealize.ShloMosaic.Lib.BitcastFour
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.Proj

open Idealize.ShloMosaic Idealize.ShloMosaic.TcCoe

/-- Rows of packed bytes: 256 output rows, 16 bytes per group, 256 groups. -/
abbrev SBytes : Shape := ⟨3, ![256, 16, 256]⟩
/-- The same rows with the four bytes of a lane column joined to one word. -/
abbrev SWords : Shape := ⟨3, ![256, 4, 256]⟩
/-- One word row of each output row. -/
abbrev SWord1 : Shape := ⟨3, ![256, 1, 256]⟩
/-- A tile of decoded weights: 256 output rows, 256 groups. -/
abbrev STile : Shape := ⟨2, ![256, 256]⟩

/-- One tile of decoded weights as the kernel computes it: word row `off 1` of the packed bytes, shifted down by `sh`
    bits, masked to four bits, less eight, times the scales. -/
def tile (ws : Vec Ideal SBytes .i8) (off : Fin 3 → ℕ) (hs : SWords.Slices off SWord1) (sh : BitVec 32)
    (sc : Vec Ideal STile .bf16) : FVec Ideal STile .bf16 :=
  shapeCast STile
    (mulf (subf (truncf .bf16 (sitofp (F := Ideal) .f32
        (andi (shrui (shapeCast STile (extractStridedSlice SWord1 off
          (bitcast SWords 32 (shapeCast SBytes ws (by decide) : IVec SBytes 8) (by decide)) hs) (by decide))
          (broadcast STile sh)) (broadcast STile 15#32))) (by decide))
      (broadcast STile (Scalar.ofBits (F := Ideal) .bf16 0x4100#16))) sc) (by decide)

/-- The four bits of a packed byte that code `h` (0 the low, 1 the high) is in, as a 32-bit word. -/
def nib (x : BitVec 8) (h : ℕ) : BitVec 32 := ((x.setWidth 32) >>> (4 * h)) &&& 15#32

/-- One weight from its code and its scale: the code as a number, less eight, times the scale. -/
def weight (x : BitVec 8) (h : ℕ) (s : EReal) : EReal :=
  (FloatOps.sitofp (F := Ideal) .f32 (nib x h) - Ideal.ofBits .bf16 16640#16) * s

/-- Shifting a word of four packed bytes down by `4 b` bits and masking it to four bits leaves a code of byte `b / 2`:
    its low code when `b` is even, its high code when `b` is odd. -/
theorem word_nib (ws : IVec SBytes 8) (h : SBytes.Bitcasts 8 SWords 32) (n g : Fin 256) (jw : Fin 4) (b : Fin 8)
    (j : Fin 16) (hj : j.val = 4 * jw.val + b.val / 2) :
    IntOp.andi (IntOp.shrui ArithUnit.vector (bitcast SWords 32 ws h (ix3 n jw g)) (BitVec.ofNat 32 (4 * b.val))) 15#32
      = nib (ws (ix3 n j g)) (b.val % 2) := by
  have hb := b.isLt
  have h4 : (BitVec.ofNat 32 (4 * b.val)).toNat = 4 * b.val := by
    rw [BitVec.toNat_ofNat]; omega
  unfold IntOp.andi IntOp.shrui nib
  rw [if_pos (by rw [h4]; omega)]
  apply BitVec.eq_of_getLsbD_eq
  intro q hq
  have h15 : (15#32 : BitVec 32).getLsbD q = decide (q < 4) := by
    interval_cases q <;> rfl
  rw [BitVec.getLsbD_and, BitVec.getLsbD_and, h15]
  by_cases hq4 : q < 4
  · congr 1
    rw [BitVec.ushiftRight_eq', h4, BitVec.getLsbD_ushiftRight, BitVec.getLsbD_ushiftRight,
      bitcast_8_32_getLsbD ws h _ _ (by omega), BitVec.getLsbD_setWidth]
    have e2 : 4 * (b.val % 2) + q = (4 * b.val + q) % 8 := by omega
    have hlt : (4 * b.val + q) % 8 < 32 := by omega
    rw [e2, decide_eq_true hlt, Bool.true_and]
    congr 2
    funext c
    match c with
    | ⟨0, _⟩ => exact Fin.ext (h.srcIdx_other _ _ _ ⟨0, by decide⟩ (by decide))
    | ⟨1, _⟩ =>
      refine Fin.ext ((h.srcIdx_row _ _ _ ⟨1, by decide⟩ rfl).trans ?_)
      show 4 * jw.val + (4 * b.val + q) / 8 = j.val
      omega
    | ⟨2, _⟩ => exact Fin.ext (h.srcIdx_other _ _ _ ⟨2, by decide⟩ (by decide))
  · rw [decide_eq_false hq4, Bool.and_false, Bool.and_false]

/-- The tile of word row `jw` shifted by `4 b` bits holds the weights of the codes of byte `4 jw + b / 2`, those of its
    low half when `b` is even and of its high half when `b` is odd. -/
theorem tile_apply (ws : Vec Ideal SBytes .i8) (jw : Fin 4) (hs : SWords.Slices ![0, jw.val, 0] SWord1) (b : Fin 8)
    (sc : Vec Ideal STile .bf16) (n g : Fin 256) (j : Fin 16) (hj : j.val = 4 * jw.val + b.val / 2) :
    tile ws ![0, jw.val, 0] hs (BitVec.ofNat 32 (4 * b.val)) sc (ix2 n g)
      = weight (ws (ix3 n j g)) (b.val % 2) (sc (ix2 n g)) := by
  pointwise [tile]
  rw [word_nib ws _ n g jw b j hj]
  rfl

/-! ## The scratch: thirty-two tiles side by side -/

/-- The scratch of decoded weights: 256 output rows, 8192 columns. -/
abbrev SWeights : Shape := ⟨2, ![256, 8192]⟩

/-- The column at which the tile of word row `jw` and shift `4 b` stands. -/
def col (jw : Fin 4) (b : Fin 8) : ℕ := ((b.val % 2) * 16 + (jw.val * 4 + b.val / 2)) * 256

theorem col_le (jw : Fin 4) (b : Fin 8) : col jw b + 256 ≤ 8192 := by
  have := jw.isLt; have := b.isLt; unfold col; omega

theorem col_inb (jw : Fin 4) (b : Fin 8) (a : Fin SWeights.rank) :
    (![0, col jw b] : Fin 2 → ℕ) a + (![256, 256] : Fin 2 → ℕ) a ≤ SWeights.size a := by
  match a with
  | ⟨0, _⟩ => exact Nat.le_refl 256
  | ⟨1, _⟩ => exact col_le jw b

theorem slices_word (jw : Fin 4) : SWords.Slices ![0, jw.val, 0] SWord1 := by
  revert jw; decide

/-- One store into the scratch. -/
def piece (ws : Vec Ideal SBytes .i8) (sc : Vec Ideal STile .bf16) (jw : Fin 4) (b : Fin 8) :
    View.Piece (Elt Ideal) SWeights .bf16 :=
  ⟨Rect.unit ![0, col jw b] ![256, 256] (col_inb jw b),
    tile ws ![0, jw.val, 0] (slices_word jw) (BitVec.ofNat 32 (4 * b.val)) sc⟩

/-- The eight stores of one word row, the last one first. -/
def wordPieces (ws : Vec Ideal SBytes .i8) (sc : Vec Ideal STile .bf16) (jw : Fin 4) :
    List (View.Piece (Elt Ideal) SWeights .bf16) :=
  [piece ws sc jw 7, piece ws sc jw 6, piece ws sc jw 5, piece ws sc jw 4, piece ws sc jw 3, piece ws sc jw 2,
    piece ws sc jw 1, piece ws sc jw 0]

/-- The thirty-two stores of one phase, the last one first. -/
def pieces (ws : Vec Ideal SBytes .i8) (sc : Vec Ideal STile .bf16) : List (View.Piece (Elt Ideal) SWeights .bf16) :=
  wordPieces ws sc 3 ++ (wordPieces ws sc 2 ++ (wordPieces ws sc 1 ++ wordPieces ws sc 0))

theorem mem_wordPieces (ws : Vec Ideal SBytes .i8) (sc : Vec Ideal STile .bf16) (jw : Fin 4)
    (p : View.Piece (Elt Ideal) SWeights .bf16) : p ∈ wordPieces ws sc jw ↔ ∃ b, p = piece ws sc jw b := by
  constructor
  · intro h
    simp only [wordPieces, List.mem_cons, List.not_mem_nil, or_false] at h
    rcases h with h | h | h | h | h | h | h | h <;> exact ⟨_, h⟩
  · rintro ⟨b, rfl⟩
    fin_cases b <;> simp [wordPieces]

theorem mem_pieces (ws : Vec Ideal SBytes .i8) (sc : Vec Ideal STile .bf16) (p : View.Piece (Elt Ideal) SWeights .bf16) :
    p ∈ pieces ws sc ↔ ∃ jw b, p = piece ws sc jw b := by
  simp only [pieces, List.mem_append, mem_wordPieces]
  constructor
  · rintro (h | h | h | h) <;> exact ⟨_, h⟩
  · rintro ⟨jw, h⟩
    fin_cases jw
    · exact Or.inr (Or.inr (Or.inr h))
    · exact Or.inr (Or.inr (Or.inl h))
    · exact Or.inr (Or.inl h)
    · exact Or.inl h

/-- Column `k` of the decoded weights of output row `n`: the code of byte `k / 256 % 16` of group `k % 256`, of the byte's
    low half for the first 4096 columns and of its high half for the others, with the scale of that row and group. -/
def decoded (ws : Vec Ideal SBytes .i8) (sc : Vec Ideal STile .bf16) (n : Fin 256) (k : Fin 8192) : EReal :=
  weight (ws (ix3 n ⟨k.val / 256 % 16, by omega⟩ ⟨k.val % 256, by omega⟩)) (k.val / 4096)
    (sc (ix2 n ⟨k.val % 256, by omega⟩))

theorem weight_congr {x x' : BitVec 8} {h h' : ℕ} {s s' : EReal} (ex : x = x') (eh : h = h') (es : s = s') :
    weight x h s = weight x' h' s' := by subst ex eh es; rfl

/-- A tile read at `x` is the decoded weight at the place `i` of the scratch that `x` is stored to. -/
theorem tile_eq_decoded (ws : Vec Ideal SBytes .i8) (sc : Vec Ideal STile .bf16) (jw : Fin 4) (b : Fin 8)
    (hs : SWords.Slices ![0, jw.val, 0] SWord1) (x : STile.Idx) (i : SWeights.Idx) (e0 : (i 0 : ℕ) = x 0)
    (e1 : (i 1 : ℕ) = col jw b + x 1) :
    tile ws ![0, jw.val, 0] hs (BitVec.ofNat 32 (4 * b.val)) sc x = decoded ws sc (i 0) (i 1) := by
  have hjw := jw.isLt
  have hb := b.isLt
  obtain ⟨n, g, rfl⟩ : ∃ (n g : Fin 256), x = ix2 n g :=
    ⟨x 0, x 1, by funext a; match a with | ⟨0, _⟩ => rfl | ⟨1, _⟩ => rfl⟩
  have hg : (g : ℕ) < 256 := g.isLt
  replace e0 : (i 0 : ℕ) = n := e0
  replace e1 : (i 1 : ℕ) = col jw b + g := e1
  rw [tile_apply ws jw _ b sc _ _ ⟨4 * jw.val + b.val / 2, by omega⟩ rfl]
  unfold decoded
  unfold col at e1
  refine weight_congr (congrArg ws ?_) ?_ (congrArg sc ?_)
  · funext a
    match a with
    | ⟨0, _⟩ => exact Fin.ext e0.symm
    | ⟨1, _⟩ => refine Fin.ext ?_; show 4 * jw.val + b.val / 2 = (i 1 : ℕ) / 256 % 16; omega
    | ⟨2, _⟩ => refine Fin.ext ?_; show (g : ℕ) = (i 1 : ℕ) % 256; omega
  · omega
  · funext a
    match a with
    | ⟨0, _⟩ => exact Fin.ext e0.symm
    | ⟨1, _⟩ => refine Fin.ext ?_; show (g : ℕ) = (i 1 : ℕ) % 256; omega

/-- Each store is a block of the decoded weights. -/
theorem piece_block (ws : Vec Ideal SBytes .i8) (sc : Vec Ideal STile .bf16) (jw : Fin 4) (b : Fin 8)
    (x : (piece ws sc jw b).1.shape.Idx) :
    (piece ws sc jw b).2 x = (fun i : SWeights.Idx => decoded ws sc (i 0) (i 1)) ((piece ws sc jw b).1.emb x) :=
  tile_eq_decoded ws sc jw b (slices_word jw) x _
    ((Rect.idx_unit_val _ _ (col_inb jw b) x 0).trans (Nat.zero_add _)) (Rect.idx_unit_val _ _ (col_inb jw b) x 1)

/-- Every element of the scratch is in one of the thirty-two stores. -/
theorem pieces_cover (ws : Vec Ideal SBytes .i8) (sc : Vec Ideal STile .bf16) (y : SWeights.Idx) :
    ∃ p ∈ pieces ws sc, y ∈ p.1.set := by
  have h0 : (y 0 : ℕ) < 256 := (y 0).isLt
  have h1 : (y 1 : ℕ) < 8192 := (y 1).isLt
  refine ⟨piece ws sc ⟨(y 1 : ℕ) / 1024 % 4, by omega⟩ ⟨(y 1 : ℕ) / 256 % 4 * 2 + (y 1 : ℕ) / 4096, by omega⟩,
    (mem_pieces _ _ _).2 ⟨_, _, rfl⟩, ?_⟩
  refine (Rect.mem_set_unit (inb := col_inb _ _)).2 fun a => ?_
  match a with
  | ⟨0, _⟩ => exact ⟨Nat.zero_le _, h0⟩
  | ⟨1, _⟩ =>
    show col _ _ ≤ (y 1 : ℕ) ∧ (y 1 : ℕ) < col _ _ + 256
    have e : col ⟨(y 1 : ℕ) / 1024 % 4, by omega⟩ ⟨(y 1 : ℕ) / 256 % 4 * 2 + (y 1 : ℕ) / 4096, by omega⟩
        = (y 1 : ℕ) / 256 * 256 := by
      have a1 : (y 1 : ℕ) / 1024 = (y 1 : ℕ) / 256 / 4 := by omega
      have a2 : (y 1 : ℕ) / 4096 = (y 1 : ℕ) / 256 / 16 := by omega
      have a3 : ((y 1 : ℕ) / 256 % 4 * 2 + (y 1 : ℕ) / 256 / 16) % 2 = (y 1 : ℕ) / 256 / 16 := by omega
      have a4 : ((y 1 : ℕ) / 256 % 4 * 2 + (y 1 : ℕ) / 256 / 16) / 2 = (y 1 : ℕ) / 256 % 4 := by omega
      unfold col
      simp only [a1, a2, a3, a4]
      omega
    rw [e]
    omega

/-- The scratch loaded whole after the thirty-two stores of a phase, over any earlier stores, is the decoded weights. -/
theorem readCov_pieces {sig : RefSig} {κ : Kind} {sp : Space} (v : View sig κ sp SWeights .bf16) (ws : Vec Ideal SBytes .i8)
    (sc : Vec Ideal STile .bf16) (L : List (View.Piece (Elt Ideal) SWeights .bf16))
    (inb : ∀ a, (![0, 0] : Fin 2 → ℕ) a + SWeights.size a ≤ SWeights.size a) :
    v.readCov (pieces ws sc ++ L) (Rect.unit ![0, 0] SWeights.size inb).toLoadRect
      = fun i => decoded ws sc (i 0) (i 1) := by
  rw [View.readCov_eq_canon']
  funext j
  have hj : (Rect.unit (s := SWeights) ![0, 0] SWeights.size inb).toLoadRect.idx j = j := by
    funext a
    refine Fin.ext ((Rect.idx_unit_val _ _ inb j a).trans ?_)
    match a with
    | ⟨0, _⟩ => exact Nat.zero_add _
    | ⟨1, _⟩ => exact Nat.zero_add _
  rw [hj]
  refine View.canon_append_of_pieces (fun i : SWeights.Idx => decoded ws sc (i 0) (i 1)) L (pieces ws sc) ?_ j
    (pieces_cover ws sc j)
  intro p hp x
  obtain ⟨jw, b, rfl⟩ := (mem_pieces ws sc p).1 hp
  exact piece_block ws sc jw b x

end Cert.Proj

end
-- ==== Proof.Proj.Head.lean ====
module

public import proofs.«01_k».proof.Proof.Proj.Tile

@[expose] public section

set_option maxRecDepth 16384

noncomputable section

namespace Cert.Proj

open Idealize.ShloMosaic Idealize.ShloMosaic.TcCoe

/-- 128 rows of one head. -/
abbrev SHead : Shape := ⟨2, ![128, 128]⟩
/-- One projected phase: every row, two heads. -/
abbrev SPhase : Shape := ⟨2, ![1536, 256]⟩
/-- One number per row. -/
abbrev SRow : Shape := ⟨1, ![128]⟩
/-- One number per row, as a column. -/
abbrev SCol : Shape := ⟨2, ![128, 1]⟩
/-- The gain of a head. -/
abbrev SGain : Shape := ⟨2, ![1, 128]⟩

/-- The head norm as the kernel computes it on 128 rows of one head. -/
def normed (q : FVec Ideal SHead .f32) (g : Vec Ideal SGain .f32) : FVec Ideal SHead .f32 :=
  mulf (mulf q (broadcastTo SHead (rsqrt (addf (mulf (shapeCast SCol
      (multiReduction .add [1] SRow (mulf q q) 0x00000000#32 (by decide) (.inl rfl) rfl) (by decide))
      (broadcast SCol (Scalar.ofBits (F := Ideal) .f32 0x3C000000#32)))
      (broadcast SCol (Scalar.ofBits (F := Ideal) .f32 0x358637BD#32)))) (by decide)))
    (broadcastTo SHead g (by decide))

/-- The rotation as the kernel computes it on 128 rows of one head: every lane times the cosine, plus the other lane of
    its pair, fetched by a lane rotation in each direction and a selection by parity, times the signed sine. -/
def rotated (u : FVec Ideal SHead .f32) (c s : Vec Ideal SHead .f32) : FVec Ideal SHead .f32 :=
  addf (mulf u c) (mulf (select (cmpi .eq (andi (iota .tc SHead 32 [1] (by decide)) (broadcast SHead 1#32)) (broadcast SHead 1#32))
    (dynamicRotate 1 1#32 none u (by decide)) (dynamicRotate 1 127#32 none u (by decide))) s)

/-- The number a head row is scaled by before its gain: one over the root of the row's mean square plus a small constant. -/
def invRms (v : Fin 128 → EReal) : EReal :=
  Ideal.rsqrt ((∑ x, v x * v x) * Ideal.ofBits .f32 1006632960#32 + Ideal.ofBits .f32 897988541#32)

/-- The head norm of one row of one head. -/
def headNorm (v g : Fin 128 → EReal) (d : Fin 128) : EReal := v d * invRms v * g d

/-- The other lane of a lane's pair. -/
def mate (d : Fin 128) : Fin 128 := ⟨if d.val % 2 = 1 then d.val - 1 else d.val + 1, by have := d.isLt; split <;> omega⟩

/-- The rotation of one row of one head, with the cosine and the signed sine of every lane. -/
def rope (v c s : Fin 128 → EReal) (d : Fin 128) : EReal := v d * c d + v (mate d) * s d

/-- The kernel's head norm, read at an index. -/
theorem normed_apply (q : FVec Ideal SHead .f32) (g : Vec Ideal SGain .f32) (r d : Fin 128) :
    normed q g (ix2 r d) = headNorm (fun d => q (ix2 r d)) (fun d => g (ix2 0 d)) d := by
  pointwise [normed]
  rfl

/-- The parity test of the kernel's selection. -/
theorem parity_test (d : Fin 128) :
    IntOp.cmpi CmpIPredicate.eq (IntOp.andi (BitVec.ofNat 32 d.val) 1#32) 1#32 = if d.val % 2 = 1 then 1#1 else 0#1 := by
  revert d; decide +kernel

/-- The kernel's rotation, read at an index. -/
theorem rotated_apply (u : FVec Ideal SHead .f32) (c s : Vec Ideal SHead .f32) (r d : Fin 128) :
    rotated u c s (ix2 r d) = rope (fun d => u (ix2 r d)) (fun d => c (ix2 r d)) (fun d => s (ix2 r d)) d := by
  pointwise [rotated]
  rw [parity_test]
  have hd := d.isLt
  unfold rope
  congr 2
  by_cases h : d.val % 2 = 1
  · rw [if_pos h]
    show u _ = u _
    congr 2
    refine Fin.ext ?_
    show (d.val + 128 - 1) % 128 = if d.val % 2 = 1 then d.val - 1 else d.val + 1
    rw [if_pos h]; omega
  · rw [if_neg h]
    show u _ = u _
    congr 2
    refine Fin.ext ?_
    show (d.val + 128 - 127) % 128 = if d.val % 2 = 1 then d.val - 1 else d.val + 1
    rw [if_neg h]; omega

/-! ## Two heads stored side by side -/

/-- 128 rows of one head under a unit axis. -/
abbrev SHead1 : Shape := ⟨3, ![128, 1, 128]⟩
/-- 128 rows of two heads. -/
abbrev SPair : Shape := ⟨3, ![128, 2, 128]⟩
/-- The output block of a grid point: every row, eight heads. -/
abbrev SOut : Shape := ⟨3, ![1536, 8, 128]⟩

/-- What a store puts into the output block: two heads' rows, one after the other. -/
def paired (lo hi : FVec Ideal SHead .bf16) : Vec Ideal SPair .bf16 :=
  interleaveRows SPair (shapeCast SHead1 lo (by decide)) (shapeCast SHead1 hi (by decide)) (by decide)

/-- Two heads' rows stored together, read at an index: the first head's at 0, the second's at 1. -/
theorem paired_apply (lo hi : FVec Ideal SHead .bf16) (r d : Fin 128) (h : Fin 2) :
    paired lo hi (ix3 r h d) = if h = 0 then lo (ix2 r d) else hi (ix2 r d) := by
  pointwise [paired]
  fin_cases h <;> rfl

/-- One head's 128 rows as the kernel stores them, from the projected phase `y` at row and column `off`. -/
def head (y : FVec Ideal SPhase .f32) (off : Fin 2 → ℕ) (hs : SPhase.Slices off SHead) (g : Vec Ideal SGain .f32)
    (c s : Vec Ideal SHead .f32) : FVec Ideal SHead .bf16 :=
  truncf .bf16 (rotated (normed (extractStridedSlice SHead off y hs) g) c s) (by decide)

/-- One head's rows, read at an index. -/
theorem head_apply (y : FVec Ideal SPhase .f32) (o0 o1 : ℕ) (hs : SPhase.Slices ![o0, o1] SHead) (g : Vec Ideal SGain .f32)
    (c s : Vec Ideal SHead .f32) (r d : Fin 128) (h0 : o0 + 128 ≤ 1536) (h1 : o1 + 128 ≤ 256) :
    head y ![o0, o1] hs g c s (ix2 r d)
      = rope (headNorm (fun d => y (ix2 ⟨o0 + r.val, by omega⟩ ⟨o1 + d.val, by omega⟩)) (fun d => g (ix2 0 d)))
          (fun d => c (ix2 r d)) (fun d => s (ix2 r d)) d := by
  show rotated _ c s (ix2 r d) = _
  rw [rotated_apply]
  congr 1
  funext d
  rw [normed_apply]
  congr 1
  funext d
  pointwise

end Cert.Proj

end
-- ==== Proof.Proj.Block.lean ====
module

public import proofs.«01_k».proof.Proof.Proj.Head

@[expose] public section

set_option maxRecDepth 16384

noncomputable section

namespace Cert.Proj

open Idealize.ShloMosaic Idealize.ShloMosaic.TcCoe

/-! ## The output block of a grid point: forty-eight stores -/

theorem slices_head (b : Fin 12) (h : Fin 2) : SPhase.Slices ![128 * b.val, 128 * h.val] SHead := by
  revert b h; decide

theorem out_inb (p : Fin 4) (b : Fin 12) (a : Fin SOut.rank) :
    (![128 * b.val, 2 * p.val, 0] : Fin 3 → ℕ) a + (![128, 2, 128] : Fin 3 → ℕ) a ≤ SOut.size a := by
  have := b.isLt; have := p.isLt
  match a with
  | ⟨0, _⟩ => show 128 * b.val + 128 ≤ 1536; omega
  | ⟨1, _⟩ => show 2 * p.val + 2 ≤ 8; omega
  | ⟨2, _⟩ => exact Nat.le_refl 128

section
variable (fin : FVec Ideal SPhase .f32 → Fin 12 → Fin 2 → FVec Ideal SHead .bf16) (Y : Fin 4 → FVec Ideal SPhase .f32)

/-- The store of row block `b` of phase `p`: the two heads `fin` makes of the phase's projection. -/
def outPiece (p : Fin 4) (b : Fin 12) : View.Piece (Elt Ideal) SOut .bf16 :=
  ⟨Rect.unit ![128 * b.val, 2 * p.val, 0] ![128, 2, 128] (out_inb p b), paired (fin (Y p) b 0) (fin (Y p) b 1)⟩

/-- The twelve stores of one phase, the last one first. -/
def phasePieces (p : Fin 4) : List (View.Piece (Elt Ideal) SOut .bf16) :=
  [outPiece fin Y p 11, outPiece fin Y p 10, outPiece fin Y p 9, outPiece fin Y p 8, outPiece fin Y p 7,
    outPiece fin Y p 6, outPiece fin Y p 5, outPiece fin Y p 4, outPiece fin Y p 3, outPiece fin Y p 2,
    outPiece fin Y p 1, outPiece fin Y p 0]

/-- The forty-eight stores of a grid point, the last one first. -/
def outPieces : List (View.Piece (Elt Ideal) SOut .bf16) :=
  phasePieces fin Y 3 ++ (phasePieces fin Y 2 ++ (phasePieces fin Y 1 ++ phasePieces fin Y 0))

theorem mem_phasePieces (p : Fin 4) (q : View.Piece (Elt Ideal) SOut .bf16) :
    q ∈ phasePieces fin Y p ↔ ∃ b, q = outPiece fin Y p b := by
  constructor
  · intro h
    simp only [phasePieces, List.mem_cons, List.not_mem_nil, or_false] at h
    rcases h with h | h | h | h | h | h | h | h | h | h | h | h <;> exact ⟨_, h⟩
  · rintro ⟨b, rfl⟩
    fin_cases b <;> simp [phasePieces]

theorem mem_outPieces (q : View.Piece (Elt Ideal) SOut .bf16) :
    q ∈ outPieces fin Y ↔ ∃ p b, q = outPiece fin Y p b := by
  simp only [outPieces, List.mem_append, mem_phasePieces]
  constructor
  · rintro (h | h | h | h) <;> exact ⟨_, h⟩
  · rintro ⟨p, h⟩
    fin_cases p
    · exact Or.inr (Or.inr (Or.inr h))
    · exact Or.inr (Or.inr (Or.inl h))
    · exact Or.inr (Or.inl h)
    · exact Or.inl h

/-- The contents of the output block: head `h` of row `r` is head `h % 2` of phase `h / 2`. -/
def outBlock (i : SOut.Idx) : EReal :=
  fin (Y ⟨(i 1).val / 2, by have h : (i 1).val < 8 := (i 1).isLt; omega⟩)
    ⟨(i 0).val / 128, by have h : (i 0).val < 1536 := (i 0).isLt; omega⟩ ⟨(i 1).val % 2, by omega⟩
    (ix2 ⟨(i 0).val % 128, by omega⟩ (i 2))

/-- Two heads stored together, read at `x`, are the output block at the place `i` that `x` is stored to. -/
theorem paired_eq_outBlock (p : Fin 4) (b : Fin 12) (x : SPair.Idx) (i : SOut.Idx) (e0 : (i 0 : ℕ) = 128 * b.val + x 0)
    (e1 : (i 1 : ℕ) = 2 * p.val + x 1) (e2 : (i 2 : ℕ) = x 2) :
    paired (fin (Y p) b 0) (fin (Y p) b 1) x = outBlock fin Y i := by
  obtain ⟨r, h, d, rfl⟩ : ∃ (r : Fin 128) (h : Fin 2) (d : Fin 128), x = ix3 r h d :=
    ⟨x 0, x 1, x 2, by funext a; match a with | ⟨0, _⟩ => rfl | ⟨1, _⟩ => rfl | ⟨2, _⟩ => rfl⟩
  have hr : (r : ℕ) < 128 := r.isLt
  have hh : (h : ℕ) < 2 := h.isLt
  replace e0 : (i 0 : ℕ) = 128 * b.val + r := e0
  replace e1 : (i 1 : ℕ) = 2 * p.val + h := e1
  replace e2 : (i 2 : ℕ) = d := e2
  have k1 : (⟨(i 1).val / 2, by have h : (i 1).val < 8 := (i 1).isLt; omega⟩ : Fin 4) = p := Fin.ext (by show (i 1 : ℕ) / 2 = p; omega)
  have k2 : (⟨(i 0).val / 128, by have h : (i 0).val < 1536 := (i 0).isLt; omega⟩ : Fin 12) = b := Fin.ext (by show (i 0 : ℕ) / 128 = b; omega)
  have k3 : (⟨(i 1).val % 2, by omega⟩ : Fin 2) = h := Fin.ext (by show (i 1 : ℕ) % 2 = h; omega)
  have k4 : (⟨(i 0).val % 128, by omega⟩ : Fin 128) = r := Fin.ext (by show (i 0 : ℕ) % 128 = r; omega)
  have k5 : (i 2 : Fin 128) = d := Fin.ext e2
  unfold outBlock
  rw [paired_apply, k1, k2, k3, k4]
  refine Eq.trans ?_ (congrArg (fun z : Fin 128 => fin (Y p) b h (ix2 r z)) k5.symm)
  fin_cases h <;> rfl

/-- Every element of the output block is in one of the forty-eight stores. -/
theorem outPieces_cover (y : SOut.Idx) : ∃ q ∈ outPieces fin Y, y ∈ q.1.set := by
  have h0 : (y 0 : ℕ) < 1536 := (y 0).isLt
  have h1 : (y 1 : ℕ) < 8 := (y 1).isLt
  have h2 : (y 2 : ℕ) < 128 := (y 2).isLt
  refine ⟨outPiece fin Y ⟨(y 1 : ℕ) / 2, by omega⟩ ⟨(y 0 : ℕ) / 128, by omega⟩, (mem_outPieces _ _ _).2 ⟨_, _, rfl⟩, ?_⟩
  refine (Rect.mem_set_unit (inb := out_inb _ _)).2 fun a => ?_
  match a with
  | ⟨0, _⟩ => show 128 * ((y 0 : ℕ) / 128) ≤ (y 0 : ℕ) ∧ (y 0 : ℕ) < 128 * ((y 0 : ℕ) / 128) + 128; omega
  | ⟨1, _⟩ => show 2 * ((y 1 : ℕ) / 2) ≤ (y 1 : ℕ) ∧ (y 1 : ℕ) < 2 * ((y 1 : ℕ) / 2) + 2; omega
  | ⟨2, _⟩ => exact ⟨Nat.zero_le _, by show (y 2 : ℕ) < 0 + 128; omega⟩

/-- What the forty-eight stores leave. -/
theorem canon_outPieces : View.canon (outPieces fin Y) = outBlock fin Y := by
  funext y
  have h := View.canon_append_of_pieces (Val := Elt Ideal) (e := .bf16) (outBlock fin Y) [] (outPieces fin Y) ?_ y (outPieces_cover fin Y y)
  · rwa [List.append_nil] at h
  · intro q hq x
    obtain ⟨p, b, rfl⟩ := (mem_outPieces fin Y q).1 hq
    exact paired_eq_outBlock fin Y p b x _ (Rect.idx_unit_val _ _ (out_inb p b) x 0) (Rect.idx_unit_val _ _ (out_inb p b) x 1)
      ((Rect.idx_unit_val _ _ (out_inb p b) x 2).trans (Nat.zero_add _))

end

/-! ## One phase's projection -/

/-- The activations: every row, 8192 columns. -/
abbrev SAct : Shape := ⟨2, ![1536, 8192]⟩

/-- One phase's projection: the activations times the transposed weights. -/
def phase (x : FVec Ideal SAct .bf16) (w : FVec Ideal SWeights .bf16) : FVec Ideal SPhase .f32 :=
  matmul (DotDims.transposedRhs 1536 8192 256) none x w (constant SPhase .f32 0x00000000#32)

/-- One phase's projection, read at an index. -/
theorem phase_apply (x : FVec Ideal SAct .bf16) (w : FVec Ideal SWeights .bf16) (r : Fin 1536) (n : Fin 256) :
    phase x w (ix2 r n) = ∑ k : Fin 8192, x (ix2 r k) * w (ix2 n k) := by
  pointwise [phase]

/-- The finish of a projection with the head norm and the rotation: what one head's rows are made into. -/
def ropeFin (g : Vec Ideal SGain .f32) (c s : Fin 12 → Vec Ideal SHead .f32) (y : FVec Ideal SPhase .f32) (b : Fin 12)
    (h : Fin 2) : FVec Ideal SHead .bf16 :=
  head y ![128 * b.val, 128 * h.val] (slices_head b h) g (c b) (s b)

end Cert.Proj

end
-- ==== Proof.Proj.Loads.lean ====
module

public import proofs.«01_k».proof.Proof.Proj.Block

@[expose] public section

set_option maxRecDepth 16384

noncomputable section

namespace Cert.Proj

open Idealize.ShloMosaic Idealize.ShloMosaic.TcCoe

/-! ## What the body loads -/

/-- The packed bytes of a grid point: 1024 rows. -/
abbrev SBytesBlk : Shape := ⟨3, ![1024, 16, 256]⟩
/-- The scales of a grid point. -/
abbrev SScaleBlk : Shape := ⟨2, ![1024, 256]⟩
/-- The cosines (or the signed sines) of every row. -/
abbrev SAngle : Shape := ⟨2, ![1536, 128]⟩

theorem bytes_inb (p : Fin 4) (a : Fin SBytesBlk.rank) : (![256 * p.val, 0, 0] : Fin 3 → ℕ) a + SBytes.size a ≤ SBytesBlk.size a := by
  revert p a; decide

theorem scale_inb (p : Fin 4) (a : Fin SScaleBlk.rank) : (![256 * p.val, 0] : Fin 2 → ℕ) a + STile.size a ≤ SScaleBlk.size a := by
  revert p a; decide

theorem angle_inb (b : Fin 12) (a : Fin SAngle.rank) : (![128 * b.val, 0] : Fin 2 → ℕ) a + SHead.size a ≤ SAngle.size a := by
  revert b a; decide

theorem weights_inb (a : Fin SWeights.rank) : (![0, 0] : Fin 2 → ℕ) a + SWeights.size a ≤ SWeights.size a := by
  revert a; decide

theorem act_inb (a : Fin SAct.rank) : (![0, 0] : Fin 2 → ℕ) a + SAct.size a ≤ SAct.size a := by
  revert a; decide

theorem gain_inb (a : Fin SGain.rank) : (![0, 0] : Fin 2 → ℕ) a + SGain.size a ≤ SGain.size a := by
  revert a; decide

section
variable {sig : RefSig}

/-- The activations, loaded whole. -/
def act (arg : Memref sig .tc .vmem SAct .bf16) (h : arg.IsWhole) (x : Vec Ideal SAct .bf16) : FVec Ideal SAct .bf16 :=
  View.readAt (Elt Ideal) arg.view (Rect.unit (s := SAct) ![0, 0] SAct.size act_inb).toLoadRect (h.unread x)

/-- The packed bytes phase `p` loads. -/
def bytes (arg : Memref sig .tc .vmem SBytesBlk .i8) (h : arg.IsWhole) (x : Vec Ideal SBytesBlk .i8) (p : Fin 4) : Vec Ideal SBytes .i8 :=
  View.readAt (Elt Ideal) arg.view (Rect.unit (s := SBytesBlk) ![256 * p.val, 0, 0] SBytes.size (bytes_inb p)).toLoadRect (h.unread x)

/-- The scales phase `p` loads. -/
def scales (arg : Memref sig .tc .vmem SScaleBlk .bf16) (h : arg.IsWhole) (x : Vec Ideal SScaleBlk .bf16) (p : Fin 4) : Vec Ideal STile .bf16 :=
  View.readAt (Elt Ideal) arg.view (Rect.unit (s := SScaleBlk) ![256 * p.val, 0] STile.size (scale_inb p)).toLoadRect (h.unread x)

/-- The cosines (or the signed sines) of row block `b`. -/
def angles (arg : Memref sig .tc .vmem SAngle .f32) (h : arg.IsWhole) (x : Vec Ideal SAngle .f32) (b : Fin 12) : Vec Ideal SHead .f32 :=
  View.readAt (Elt Ideal) arg.view (Rect.unit (s := SAngle) ![128 * b.val, 0] SHead.size (angle_inb b)).toLoadRect (h.unread x)

/-- The gain, loaded whole. -/
def gain (arg : Memref sig .tc .vmem SGain .f32) (h : arg.IsWhole) (x : Vec Ideal SGain .f32) : Vec Ideal SGain .f32 :=
  View.readAt (Elt Ideal) arg.view (Rect.unit (s := SGain) ![0, 0] SGain.size gain_inb).toLoadRect (h.unread x)

theorem act_eq (arg : Memref sig .tc .vmem SAct .bf16) (h : arg.IsWhole) (x : Vec Ideal SAct .bf16) : act arg h x = x := by
  unfold act
  rw [View.readAt_eq_ld, h.read_unread]
  exact View.ld_unit_zero (by decide) _ x

theorem gain_eq (arg : Memref sig .tc .vmem SGain .f32) (h : arg.IsWhole) (x : Vec Ideal SGain .f32) : gain arg h x = x := by
  unfold gain
  rw [View.readAt_eq_ld, h.read_unread]
  exact View.ld_unit_zero (by decide) _ x

/-- The bytes of phase `p` are rows `256 p …` of the grid point's. -/
theorem bytes_apply (arg : Memref sig .tc .vmem SBytesBlk .i8) (h : arg.IsWhole) (x : Vec Ideal SBytesBlk .i8) (p : Fin 4)
    (n : Fin 256) (j : Fin 16) (g : Fin 256) : bytes arg h x p (ix3 n j g) = x (ix3 ⟨256 * p.val + n.val, by omega⟩ j g) := by
  unfold bytes
  rw [View.readAt_eq_ld, h.read_unread]
  refine View.ld_unit_apply_of x _ _ _ _ _ fun a => ?_
  match a with
  | ⟨0, _⟩ => rfl
  | ⟨1, _⟩ => exact (Nat.zero_add _).symm
  | ⟨2, _⟩ => exact (Nat.zero_add _).symm

/-- The scales of phase `p` are rows `256 p …` of the grid point's. -/
theorem scales_apply (arg : Memref sig .tc .vmem SScaleBlk .bf16) (h : arg.IsWhole) (x : Vec Ideal SScaleBlk .bf16) (p : Fin 4)
    (n : Fin 256) (g : Fin 256) : scales arg h x p (ix2 n g) = x (ix2 ⟨256 * p.val + n.val, by omega⟩ g) := by
  unfold scales
  rw [View.readAt_eq_ld, h.read_unread]
  refine View.ld_unit_apply_of x _ _ _ _ _ fun a => ?_
  match a with
  | ⟨0, _⟩ => rfl
  | ⟨1, _⟩ => exact (Nat.zero_add _).symm

/-- The cosines of row block `b` are rows `128 b …`. -/
theorem angles_apply (arg : Memref sig .tc .vmem SAngle .f32) (h : arg.IsWhole) (x : Vec Ideal SAngle .f32) (b : Fin 12)
    (r d : Fin 128) : angles arg h x b (ix2 r d) = x (ix2 ⟨128 * b.val + r.val, by omega⟩ d) := by
  unfold angles
  rw [View.readAt_eq_ld, h.read_unread]
  refine View.ld_unit_apply_of x _ _ _ _ _ fun a => ?_
  match a with
  | ⟨0, _⟩ => rfl
  | ⟨1, _⟩ => exact (Nat.zero_add _).symm

end

/-! ## The value of a grid point's output block -/

/-- One entry of the projection of a grid point: the row's activations times the row of decoded weights. -/
def proj (x : Vec Ideal SAct .bf16) (ws : Vec Ideal SBytesBlk .i8) (sc : Vec Ideal SScaleBlk .bf16) (r : Fin 1536)
    (n : Fin 1024) : EReal :=
  ∑ k : Fin 8192, x (ix2 r k) * weight (ws (ix3 n ⟨k.val / 256 % 16, by omega⟩ ⟨k.val % 256, by omega⟩)) (k.val / 4096)
    (sc (ix2 n ⟨k.val % 256, by omega⟩))

/-- Column `d` of head `h` of a grid point. -/
def headCol (h : Fin 8) (d : Fin 128) : Fin 1024 := ⟨128 * h.val + d.val, by omega⟩

/-- The output block with the head norm and the rotation. -/
def ropeOut (x : Vec Ideal SAct .bf16) (ws : Vec Ideal SBytesBlk .i8) (sc : Vec Ideal SScaleBlk .bf16)
    (c s : Vec Ideal SAngle .f32) (g : Vec Ideal SGain .f32) (i : SOut.Idx) : EReal :=
  rope (headNorm (fun d => proj x ws sc (i 0) (headCol (i 1) d)) (fun d => g (ix2 0 d)))
    (fun d => c (ix2 (i 0) d)) (fun d => s (ix2 (i 0) d)) (i 2)

/-- The output block of the bare projection. -/
def plainOut (x : Vec Ideal SAct .bf16) (ws : Vec Ideal SBytesBlk .i8) (sc : Vec Ideal SScaleBlk .bf16) (i : SOut.Idx) : EReal :=
  proj x ws sc (i 0) (headCol (i 1) (i 2))

/-- The finish of a bare projection: one head's rows, rounded. -/
def plainFin (y : FVec Ideal SPhase .f32) (b : Fin 12) (h : Fin 2) : FVec Ideal SHead .bf16 :=
  truncf .bf16 (extractStridedSlice SHead ![128 * b.val, 128 * h.val] y (slices_head b h)) (by decide)

section
variable {sig : RefSig} {arg1 : Memref sig .tc .vmem SAct .bf16} {h1 : arg1.IsWhole}
  {arg2 : Memref sig .tc .vmem SBytesBlk .i8} {h2 : arg2.IsWhole}
  {arg3 : Memref sig .tc .vmem SScaleBlk .bf16} {h3 : arg3.IsWhole}
  {arg4 : Memref sig .tc .vmem SAngle .f32} {h4 : arg4.IsWhole}
  {arg5 : Memref sig .tc .vmem SAngle .f32} {h5 : arg5.IsWhole}
  {arg6 : Memref sig .tc .vmem SGain .f32} {h6 : arg6.IsWhole}
  {arg8 : Memref sig .tc .vmem SWeights .bf16}
  {x0 : Vec Ideal SAct .bf16} {x1 : Vec Ideal SBytesBlk .i8} {x2 : Vec Ideal SScaleBlk .bf16}
  {x3 x4 : Vec Ideal SAngle .f32} {x5 : Vec Ideal SGain .f32}
  {H : Fin 4 → List (View.Piece (Elt Ideal) SWeights .bf16)}

/-- The scratch read whole after phase `p`'s stores `H p`. -/
def unpacked (arg8 : Memref sig .tc .vmem SWeights .bf16) (H : Fin 4 → List (View.Piece (Elt Ideal) SWeights .bf16))
    (p : Fin 4) : FVec Ideal SWeights .bf16 :=
  arg8.view.readCov (H p) (Rect.unit (s := SWeights) ![0, 0] SWeights.size weights_inb).toLoadRect

/-- One phase's projection, when the phase's stores into the scratch are the thirty-two decoded column blocks. -/
theorem phase_unpacked (hH : ∀ p, ∃ L, H p = pieces (bytes arg2 h2 x1 p) (scales arg3 h3 x2 p) ++ L) (p : Fin 4)
    (r : Fin 1536) (n : Fin 256) :
    phase (act arg1 h1 x0) (unpacked arg8 H p) (ix2 r n) = proj x0 x1 x2 r ⟨256 * p.val + n.val, by omega⟩ := by
  obtain ⟨L, hL⟩ := hH p
  rw [phase_apply, act_eq]
  unfold unpacked
  rw [hL, readCov_pieces]
  refine Finset.sum_congr rfl fun k _ => ?_
  show x0 (ix2 r k) * decoded _ _ n k = _
  unfold decoded
  rw [bytes_apply, scales_apply]

theorem headCol_eq (h : Fin 8) (d : Fin 128) :
    (⟨256 * (h.val / 2) + (128 * (h.val % 2) + d.val), by omega⟩ : Fin 1024) = headCol h d :=
  Fin.ext (by show 256 * (h.val / 2) + (128 * (h.val % 2) + d.val) = 128 * h.val + d.val; omega)

theorem row_eq (r : Fin 1536) : (⟨128 * (r.val / 128) + r.val % 128, by omega⟩ : Fin 1536) = r :=
  Fin.ext (Nat.div_add_mod _ _)

/-- The stores of a grid point with the head norm and the rotation leave `ropeOut`. -/
theorem outBlock_rope (hH : ∀ p, ∃ L, H p = pieces (bytes arg2 h2 x1 p) (scales arg3 h3 x2 p) ++ L) :
    outBlock (ropeFin (gain arg6 h6 x5) (angles arg4 h4 x3) (angles arg5 h5 x4))
      (fun p => phase (act arg1 h1 x0) (unpacked arg8 H p)) = ropeOut x0 x1 x2 x3 x4 x5 := by
  funext i
  obtain ⟨r, h, d, rfl⟩ : ∃ (r : Fin 1536) (h : Fin 8) (d : Fin 128), i = ix3 r h d :=
    ⟨i 0, i 1, i 2, by funext a; match a with | ⟨0, _⟩ => rfl | ⟨1, _⟩ => rfl | ⟨2, _⟩ => rfl⟩
  refine (head_apply (phase (act arg1 h1 x0) (unpacked arg8 H ⟨h.val / 2, by omega⟩)) (128 * (r.val / 128)) (128 * (h.val % 2))
    (slices_head ⟨r.val / 128, by omega⟩ ⟨h.val % 2, by omega⟩) (gain arg6 h6 x5) (angles arg4 h4 x3 ⟨r.val / 128, by omega⟩)
    (angles arg5 h5 x4 ⟨r.val / 128, by omega⟩) ⟨r.val % 128, by omega⟩ d (by omega) (by omega)).trans ?_
  rw [gain_eq]
  simp only [angles_apply, phase_unpacked hH, row_eq, headCol_eq]
  rfl

/-- The stores of a grid point of the bare projection leave `plainOut`. -/
theorem outBlock_plain (hH : ∀ p, ∃ L, H p = pieces (bytes arg2 h2 x1 p) (scales arg3 h3 x2 p) ++ L) :
    outBlock plainFin (fun p => phase (act arg1 h1 x0) (unpacked arg8 H p)) = plainOut x0 x1 x2 := by
  funext i
  obtain ⟨r, h, d, rfl⟩ : ∃ (r : Fin 1536) (h : Fin 8) (d : Fin 128), i = ix3 r h d :=
    ⟨i 0, i 1, i 2, by funext a; match a with | ⟨0, _⟩ => rfl | ⟨1, _⟩ => rfl | ⟨2, _⟩ => rfl⟩
  have e : outBlock plainFin (fun p => phase (act arg1 h1 x0) (unpacked arg8 H p)) (ix3 r h d)
      = phase (act arg1 h1 x0) (unpacked arg8 H ⟨h.val / 2, by omega⟩)
          (ix2 ⟨128 * (r.val / 128) + r.val % 128, by omega⟩ ⟨128 * (h.val % 2) + d.val, by omega⟩) := by
    show plainFin _ _ _ (ix2 _ _) = _
    pointwise [plainFin]
  rw [e, phase_unpacked hH]
  simp only [row_eq, headCol_eq]
  rfl

end

end Cert.Proj

end
-- ==== Proof.Proj.QBody.lean ====
module

public import proofs.«01_k».proof.Proof.Proj.Loads
public import proofs.«01_k».proof.Proof.Gen.KernelIdeal.Value

@[expose] public section

set_option maxRecDepth 16384

noncomputable section

namespace Cert.Proj.Q

open Cert.KernelIdeal Cert.KernelIdeal.Gen Idealize.ShloMosaic Idealize.ShloMosaic.TcCoe Cert.Proj

variable (c : Dev nD) (i : grid0.Coords) (arg1 : Memref sig .tc .vmem S1536x8192 .bf16) (harg1 : arg1.IsWhole)
  (arg2 : Memref sig .tc .vmem S1024x16x256 .i8) (harg2 : arg2.IsWhole)
  (arg3 : Memref sig .tc .vmem S1024x256 .bf16) (harg3 : arg3.IsWhole)
  (arg4 : Memref sig .tc .vmem S1536x128 .f32) (harg4 : arg4.IsWhole)
  (arg5 : Memref sig .tc .vmem S1536x128 .f32) (harg5 : arg5.IsWhole)
  (arg6 : Memref sig .tc .vmem S1x128 .f32) (harg6 : arg6.IsWhole)
  (arg7 : Memref sig .tc .vmem S1536x8x128 .bf16) (harg7 : arg7.IsWhole)
  (arg8 : Memref sig .tc .vmem S256x8192 .bf16) (harg8 : arg8.IsWhole)
  (x0 : Vec Ideal S1536x8192 .bf16) (x1 : Vec Ideal S1024x16x256 .i8) (x2 : Vec Ideal S1024x256 .bf16)
  (x3 : Vec Ideal S1536x128 .f32) (x4 : Vec Ideal S1536x128 .f32) (x5 : Vec Ideal S1x128 .f32)

/-- The scratch after phase 0's stores. -/
theorem scratch0 : kernelRun0_A.sl.HS0_32 c arg2 harg2 arg3 harg3 x1 x2
    = pieces (bytes arg2 harg2 x1 0) (scales arg3 harg3 x2 0) ++ [] := rfl

/-- The scratch after phase 1's stores. -/
theorem scratch1 : kernelRun0_A.sl.HS0_64 c arg2 harg2 arg3 harg3 x1 x2
    = pieces (bytes arg2 harg2 x1 1) (scales arg3 harg3 x2 1) ++ kernelRun0_A.sl.HS0_32 c arg2 harg2 arg3 harg3 x1 x2 := rfl

/-- The scratch after phase 2's stores. -/
theorem scratch2 : kernelRun0_A.sl.HS0_96 c arg2 harg2 arg3 harg3 x1 x2
    = pieces (bytes arg2 harg2 x1 2) (scales arg3 harg3 x2 2) ++ kernelRun0_A.sl.HS0_64 c arg2 harg2 arg3 harg3 x1 x2 := rfl

/-- The scratch after phase 3's stores. -/
theorem scratch3 : kernelRun0_A.sl.HS0_128 c arg2 harg2 arg3 harg3 x1 x2
    = pieces (bytes arg2 harg2 x1 3) (scales arg3 harg3 x2 3) ++ kernelRun0_A.sl.HS0_96 c arg2 harg2 arg3 harg3 x1 x2 := rfl

/-- The stores into the scratch up to the end of each phase. -/
def scratch (p : Fin 4) : List (View.Piece (Elt Ideal) SWeights .bf16) :=
  match p with
  | 0 => kernelRun0_A.sl.HS0_32 c arg2 harg2 arg3 harg3 x1 x2
  | 1 => kernelRun0_A.sl.HS0_64 c arg2 harg2 arg3 harg3 x1 x2
  | 2 => kernelRun0_A.sl.HS0_96 c arg2 harg2 arg3 harg3 x1 x2
  | 3 => kernelRun0_A.sl.HS0_128 c arg2 harg2 arg3 harg3 x1 x2

/-- The stores into the scratch up to the end of a phase begin with the phase's own. -/
theorem scratch_eq (p : Fin 4) :
    ∃ L, scratch c arg2 harg2 arg3 harg3 x1 x2 p = pieces (bytes arg2 harg2 x1 p) (scales arg3 harg3 x2 p) ++ L :=
  match p with
  | 0 => ⟨_, scratch0 c arg2 harg2 arg3 harg3 x1 x2⟩
  | 1 => ⟨_, scratch1 c arg2 harg2 arg3 harg3 x1 x2⟩
  | 2 => ⟨_, scratch2 c arg2 harg2 arg3 harg3 x1 x2⟩
  | 3 => ⟨_, scratch3 c arg2 harg2 arg3 harg3 x1 x2⟩

/-- The stores of the body, as the run found them, are the forty-eight stores of two finished heads each. -/
theorem stores : (kernelRun0_A c i arg1 harg1 arg2 harg2 arg3 harg3 arg4 harg4 arg5 harg5 arg6 harg6 arg7 harg7 arg8 harg8 x0 x1 x2 x3 x4 x5).1
    = outPieces (ropeFin (gain arg6 harg6 x5) (angles arg4 harg4 x3) (angles arg5 harg5 x4))
        (fun p => phase (act arg1 harg1 x0) (unpacked arg8 (scratch c arg2 harg2 arg3 harg3 x1 x2) p)) := rfl

/-- What a grid point leaves in its output block: the projection with the head norm and the rotation. -/
theorem block_value : out0_A_6 c i arg1 harg1 arg2 harg2 arg3 harg3 arg4 harg4 arg5 harg5 arg6 harg6 arg7 harg7 arg8 harg8 x0 x1 x2 x3 x4 x5
    = ropeOut x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5),
    stores, canon_outPieces]
  exact outBlock_rope (scratch_eq c arg2 harg2 arg3 harg3 x1 x2)

end Cert.Proj.Q

end
-- ==== Proof.Proj.Whole.lean ====
module

public import proofs.«01_k».proof.Proof.Proj.Loads

@[expose] public section

set_option maxRecDepth 16384

noncomputable section

namespace Cert.Proj

open Idealize.ShloMosaic Idealize.ShloMosaic.TcCoe

/-! ## A whole projection, over the arguments' own layout -/

section
variable {N : ℕ} (X : Vec Ideal SAct .bf16) (W : Vec Ideal ⟨3, ![N, 256, 16]⟩ .i8)
  (Sc : Vec Ideal ⟨2, ![N, 256]⟩ .bf16) (C S : Vec Ideal SAngle .f32) (G : Vec Ideal SGain .f32)

/-- One entry of the projection: the row's activations times the row of decoded weights. -/
def projAll (r : Fin 1536) (n : Fin N) : EReal :=
  ∑ k : Fin 8192, X (ix2 r k) * weight (W (ix3 n ⟨k.val % 256, by omega⟩ ⟨k.val / 256 % 16, by omega⟩)) (k.val / 4096)
    (Sc (ix2 n ⟨k.val % 256, by omega⟩))

variable {H : ℕ} (hN : 128 * H = N)

include hN in
theorem headColAll_lt (h : Fin H) (d : Fin 128) : 128 * h.val + d.val < N := by
  have := h.isLt; have := d.isLt; omega

/-- The whole projection with the head norm and the rotation. -/
def ropeAll (i : (⟨3, ![1536, H, 128]⟩ : Shape).Idx) : EReal :=
  rope (headNorm (fun d => projAll X W Sc (i 0) ⟨128 * (i 1).val + d.val, headColAll_lt hN (i 1) d⟩) (fun d => G (ix2 0 d)))
    (fun d => C (ix2 (i 0) d)) (fun d => S (ix2 (i 0) d)) (i 2)

/-- The whole bare projection. -/
def plainAll (i : (⟨3, ![1536, H, 128]⟩ : Shape).Idx) : EReal :=
  projAll X W Sc (i 0) ⟨128 * (i 1).val + (i 2).val, headColAll_lt hN (i 1) (i 2)⟩

variable {X W Sc C S G} {x0 : Vec Ideal SAct .bf16} {x1 : Vec Ideal SBytesBlk .i8} {x2 : Vec Ideal SScaleBlk .bf16}
  {x3 x4 : Vec Ideal SAngle .f32} {x5 : Vec Ideal SGain .f32} (t : ℕ) (ht : 1024 * t + 1024 ≤ N)

omit hN in
include ht in
theorem rowAll_lt (n : Fin 1024) : 1024 * t + n.val < N := by
  have := n.isLt; omega

/-- A grid point's projection is the whole one's at the point's rows. -/
theorem proj_eq (e0 : x0 = X) (e1 : ∀ (n : Fin 1024) (j : Fin 16) (g : Fin 256), x1 (ix3 n j g) = W (ix3 ⟨1024 * t + n.val, rowAll_lt t ht n⟩ g j))
    (e2 : ∀ (n : Fin 1024) (g : Fin 256), x2 (ix2 n g) = Sc (ix2 ⟨1024 * t + n.val, rowAll_lt t ht n⟩ g)) (r : Fin 1536) (n : Fin 1024) :
    proj x0 x1 x2 r n = projAll X W Sc r ⟨1024 * t + n.val, rowAll_lt t ht n⟩ := by
  subst e0
  refine Finset.sum_congr rfl fun k _ => ?_
  rw [e1, e2]

/-- A grid point's block with the head norm and the rotation is the whole result's at the point's heads. -/
theorem ropeOut_eq (e0 : x0 = X) (e1 : ∀ (n : Fin 1024) (j : Fin 16) (g : Fin 256), x1 (ix3 n j g) = W (ix3 ⟨1024 * t + n.val, rowAll_lt t ht n⟩ g j))
    (e2 : ∀ (n : Fin 1024) (g : Fin 256), x2 (ix2 n g) = Sc (ix2 ⟨1024 * t + n.val, rowAll_lt t ht n⟩ g))
    (e3 : x3 = C) (e4 : x4 = S) (e5 : x5 = G) (r : Fin 1536) (h : Fin 8) (d : Fin 128) (z : Fin H) (hz : z.val = 8 * t + h.val) :
    ropeOut x0 x1 x2 x3 x4 x5 (ix3 r h d) = ropeAll X W Sc C S G hN (ix3 r z d) := by
  subst e3 e4 e5
  show rope (headNorm (fun d => proj x0 x1 x2 r (headCol h d)) _) _ _ d = rope (headNorm (fun d => projAll X W Sc r _) _) _ _ d
  congr 2
  funext d
  rw [proj_eq t ht e0 e1 e2]
  congr 1
  exact Fin.ext (by show 1024 * t + (128 * h.val + d.val) = 128 * z.val + d.val; omega)

/-- A grid point's bare block is the whole result's at the point's heads. -/
theorem plainOut_eq (e0 : x0 = X) (e1 : ∀ (n : Fin 1024) (j : Fin 16) (g : Fin 256), x1 (ix3 n j g) = W (ix3 ⟨1024 * t + n.val, rowAll_lt t ht n⟩ g j))
    (e2 : ∀ (n : Fin 1024) (g : Fin 256), x2 (ix2 n g) = Sc (ix2 ⟨1024 * t + n.val, rowAll_lt t ht n⟩ g))
    (r : Fin 1536) (h : Fin 8) (d : Fin 128) (z : Fin H) (hz : z.val = 8 * t + h.val) :
    plainOut x0 x1 x2 (ix3 r h d) = plainAll X W Sc hN (ix3 r z d) := by
  show proj x0 x1 x2 r (headCol h d) = projAll X W Sc r _
  rw [proj_eq t ht e0 e1 e2]
  congr 1
  exact Fin.ext (by show 1024 * t + (128 * h.val + d.val) = 128 * z.val + d.val; omega)

end

end Cert.Proj

end
-- ==== Proof.Proj.QArray.lean ====
module

public import proofs.«01_k».proof.Proof.Proj.QBody
public import proofs.«01_k».proof.Proof.Proj.Whole

@[expose] public section

set_option maxRecDepth 16384

noncomputable section

namespace Cert.Proj.Q

open Cert.KernelIdeal Cert.KernelIdeal.Gen Idealize.ShloMosaic Idealize.ShloMosaic.TcCoe Cert.Proj

variable (m : (ℓ : Loc nD τ sig) → Buf (Elt Ideal) ℓ)

/-- The windows' block indices at a grid point. -/
theorem idx : ∀ t : Fin cfg0.N, win0_0.index t = ![0, 0] ∧ win0_1.index t = ![t.val, 0, 0] ∧ win0_2.index t = ![t.val, 0]
    ∧ win0_3.index t = ![0, 0] ∧ win0_4.index t = ![0, 0] ∧ win0_5.index t = ![0, 0] ∧ win0_6.index t = ![0, t.val, 0] :=
  (by decide +kernel : ∀ t : Fin grid0.N, _)

theorem iblk0 (c : Dev nD) (t : Fin cfg0.N) : iblk m c 0 t = m ((c : Thread nD τ).loc main_arg0) := by
  obtain ⟨h0, h1, h2, h3, h4, h5, h6⟩ := idx t
  blk_ext! [iblk, V, h0]

theorem iblk3 (c : Dev nD) (t : Fin cfg0.N) : iblk m c 3 t = m ((c : Thread nD τ).loc main_arg3) := by
  obtain ⟨h0, h1, h2, h3, h4, h5, h6⟩ := idx t
  blk_ext! [iblk, V, h3]

theorem iblk4 (c : Dev nD) (t : Fin cfg0.N) : iblk m c 4 t = m ((c : Thread nD τ).loc main_arg4) := by
  obtain ⟨h0, h1, h2, h3, h4, h5, h6⟩ := idx t
  blk_ext! [iblk, V, h4]

theorem iblk5 (c : Dev nD) (t : Fin cfg0.N) : iblk m c 5 t = m ((c : Thread nD τ).loc main_arg5) := by
  obtain ⟨h0, h1, h2, h3, h4, h5, h6⟩ := idx t
  blk_ext! [iblk, V, h5]

theorem point_le (t : Fin cfg0.N) : 1024 * t.val + 1024 ≤ 7168 := by
  have h : t.val < 7 := t.isLt
  omega

/-- The bytes a grid point finds staged: the packed argument's rows, its last two axes exchanged. -/
theorem iblk1 (c : Dev nD) (t : Fin cfg0.N) (n : Fin 1024) (j : Fin 16) (g : Fin 256) :
    iblk m c 1 t (ix3 n j g) = m ((c : Thread nD τ).loc main_arg1) (ix3 ⟨1024 * t.val + n.val, by have := point_le t; omega⟩ g j) := by
  obtain ⟨h0, h1, h2, h3, h4, h5, h6⟩ := idx t
  blk_ext! [iblk, V, h1]

theorem iblk2 (c : Dev nD) (t : Fin cfg0.N) (n : Fin 1024) (g : Fin 256) :
    iblk m c 2 t (ix2 n g) = m ((c : Thread nD τ).loc main_arg2) (ix2 ⟨1024 * t.val + n.val, by have := point_le t; omega⟩ g) := by
  obtain ⟨h0, h1, h2, h3, h4, h5, h6⟩ := idx t
  blk_ext! [iblk, V, h2]

/-- The result array after the run. -/
theorem final (c : Dev nD) : (dats m 0 c).arrAt 6 cfg0.N
    = ropeAll (N := 7168) (H := 56) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) rfl := by
  refine (dats m 0 c).arrAt_eq_of_covers 6 _ (by decide +kernel) fun t hf y => ?_
  blk_simp
  rw [after0_6]
  unfold outsAt0
  rw [block_value]
  obtain ⟨h0, h1, h2, h3, h4, h5, h6⟩ := idx t
  obtain ⟨r, h, d, rfl⟩ : ∃ (r : Fin 1536) (h : Fin 8) (d : Fin 128), y = ix3 r h d := ⟨y 0, y 1, y 2, eq_ix3 (n0 := 1536) (n1 := 8) (n2 := 128) y⟩
  have ht := point_le t
  have e : (win0_6.blk t).view.emb (ix3 r h d) = (ix3 r ⟨8 * t.val + h.val, by omega⟩ d : S1536x56x128.Idx) := by
    blk_ext [h6]
  rw [e]
  exact ropeOut_eq rfl t.val ht (iblk0 m c t) (iblk1 m c t) (iblk2 m c t) (iblk3 m c t) (iblk4 m c t) (iblk5 m c t) r h d _ rfl

end Cert.Proj.Q

end
-- ==== Proof.Proj.QRef.lean ====
module

public import proofs.«01_k».proof.Proof.Proj.Whole
public import proofs.«01_k».proof.Proof.Gen.ReferenceIdeal.Run
public import proofs.«01_k».proof.Proof.Gen.ReferenceIdeal.Read

@[expose] public section

set_option maxRecDepth 16384

noncomputable section

namespace Cert.Proj.Ref

open Cert.ReferenceIdeal Cert.ReferenceIdeal.Read Idealize.ShloMosaic Idealize.ShloMosaic.TcCoe Cert.Proj

variable (X : Vec Ideal S1536x8192 .bf16) (W : Vec Ideal S7168x256x16 .i8) (Sc : Vec Ideal S7168x256 .bf16)
  (C S : Vec Ideal S1536x128 .f32) (G : Vec Ideal S1x128 .f32)

omit X W Sc C S G in
/-- A sum over the 8192 columns is the sum over the first sixteen blocks of 256 columns and the sum over the last sixteen. -/
theorem sum_halves (f : Fin 8192 → EReal) :
    ∑ k, f k = (∑ g : Fin 256, ∑ j : Fin 16, f ⟨j.val * 256 + g.val, by omega⟩)
      + ∑ g : Fin 256, ∑ j : Fin 16, f ⟨(16 + j.val) * 256 + g.val, by omega⟩ := by
  rw [← (finProdFinEquiv (m := 32) (n := 256)).sum_comp, Fintype.sum_prod_type, Finset.sum_comm, ← Finset.sum_add_distrib]
  refine Finset.sum_congr rfl fun g _ => ?_
  refine (Fin.sum_univ_add (a := 16) (b := 16) fun j => f (finProdFinEquiv (j, g))).trans ?_
  congr 1 <;>
    exact Finset.sum_congr rfl fun j _ => congrArg f (Fin.ext (by
      simp [finProdFinEquiv]
      omega))

omit X W Sc C S G in
/-- The reference's high half of a byte is the second nibble. -/
theorem nib_hi (x : BitVec 8) : IntOp.shrsi ArithUnit.host (BitVec.setWidth 32 x) 4#32 = nib x 1 := by
  revert x; decide +kernel

omit X W Sc C S G in
/-- The reference's low half of a byte is the first nibble. -/
theorem nib_lo (x : BitVec 8) : IntOp.andi (BitVec.setWidth 32 x) 15#32 = nib x 0 := by
  revert x; decide +kernel

/-- The reference's projection is the sum over all columns. -/
theorem proj_apply (r : Fin 1536) (n : Fin 7168) : val_main_v21 (F := Ideal) X W Sc (ix2 r n) = projAll X W Sc r n := by
  unfold projAll
  rw [sum_halves]
  show val_main_v19 (F := Ideal) X W Sc (ix2 r n) + val_main_v20 (F := Ideal) X W Sc (ix2 r n) = _
  congr 1
  · pointwise [val_main_v19, val_main_v1, val_main_v0, val_main_v11, val_main_v9, val_main_v7, val_main_v6, val_main_v4, val_main_v5, val_main_c, val_main_v8, val_main_cst, val_main_v10, val_main_v3]
    refine Finset.sum_congr rfl fun g _ => Finset.sum_congr rfl fun j _ => ?_
    have e1 : (j.val * 256 + g.val) % 256 = g.val := by omega
    have e2 : (j.val * 256 + g.val) / 256 % 16 = j.val := by omega
    have e3 : (j.val * 256 + g.val) / 4096 = 0 := by omega
    simp only [e1, e2, e3, nib_lo, Fin.eta]
    rfl
  · pointwise [val_main_v20, val_main_v2, val_main_v0, val_main_v18, val_main_v16, val_main_v14, val_main_v13, val_main_v4, val_main_v12, val_main_c_0, val_main_v15, val_main_cst_1, val_main_v17, val_main_v3]
    refine Finset.sum_congr rfl fun g _ => Finset.sum_congr rfl fun j _ => ?_
    have e1 : ((16 + j.val) * 256 + g.val) % 256 = g.val := by omega
    have e2 : ((16 + j.val) * 256 + g.val) / 256 % 16 = j.val := by omega
    have e3 : ((16 + j.val) * 256 + g.val) / 4096 = 1 := by omega
    simp only [e1, e2, e3, nib_hi, Fin.eta]
    rfl

omit X W Sc C S G in
theorem ofBits_128 : Ideal.ofBits .f32 1124073472#32 = ((128 : ℝ) : EReal) := by
  simp [Ideal.ofBits, Ideal.ieee, -EReal.coe_mul]; norm_num

omit X W Sc C S G in
theorem ofBits_inv_128 : Ideal.ofBits .f32 1006632960#32 = ((1 / 128 : ℝ) : EReal) := by
  simp [Ideal.ofBits, Ideal.ieee, -EReal.coe_mul]; norm_num

/-- The reference's head norm. -/
theorem heads_apply (r : Fin 1536) (h : Fin 56) (d : Fin 128) : val_main_v35 (F := Ideal) X W Sc G (ix3 r h d)
    = headNorm (fun d => projAll X W Sc r ⟨128 * h.val + d.val, headColAll_lt rfl h d⟩) (fun d => G (ix2 0 d)) d := by
  pointwise [val_main_v35, val_main_v34, val_main_v33, val_main_v32, val_main_v31, val_main_v30, val_main_v29, val_main_v28, val_main_cst_4, val_main_v27, val_main_v26, val_main_cst_3, val_main_v25, val_main_v24, val_main_cst_2, val_main_v23, val_main_v22]
  simp only [proj_apply, ofBits_128, Ideal.div_coe (show (128 : ℝ) ≠ 0 by norm_num)]
  unfold headNorm invRms
  rw [ofBits_inv_128]
  simp only [Nat.mul_comm]

/-- The reference's result is the whole projection with the head norm and the rotation. -/
theorem out_eq : val_main_v65 (F := Ideal) X W Sc C S G = ropeAll (N := 7168) (H := 56) X W Sc C S G rfl := by
  funext i
  obtain ⟨r, h, d, rfl⟩ : ∃ (r : Fin 1536) (h : Fin 56) (d : Fin 128), i = ix3 r h d := ⟨i 0, i 1, i 2, eq_ix3 (n0 := 1536) (n1 := 56) (n2 := 128) i⟩
  have e : ropeAll (N := 7168) (H := 56) X W Sc C S G rfl (ix3 r h d) = rope (fun d => val_main_v35 (F := Ideal) X W Sc G (ix3 r h d))
    (fun d => C (ix2 r d)) (fun d => S (ix2 r d)) d := by
    simp only [heads_apply]
    rfl
  rw [e]
  have hd := d.isLt
  pointwise [val_main_v65, val_main_v64, val_main_v63, val_main_v62, val_main_v61]
  unfold rope
  by_cases hp : d.val % 2 = 1
  · rw [dif_neg (by omega)]
    pointwise [val_main_v60, val_main_v59, val_main_v58, val_main_v57, val_main_v56, val_main_v55, val_main_v54, val_main_v53, val_main_v52, val_main_v42, val_main_v41, val_main_v40, val_main_v39, val_main_v38, val_main_v37, val_main_v36]
    have e1 : (⟨d.val / 2 * 2 + 1, by omega⟩ : Fin 128) = d := Fin.ext (by show d.val / 2 * 2 + 1 = d.val; omega)
    have e0 : (⟨d.val / 2 * 2, by omega⟩ : Fin 128) = mate d := Fin.ext (by
      show d.val / 2 * 2 = if d.val % 2 = 1 then d.val - 1 else d.val + 1
      rw [if_pos hp]; omega)
    rw [e1, e0, add_comm]
  · rw [dif_pos (by omega)]
    pointwise [val_main_v51, val_main_v50, val_main_v49, val_main_v48, val_main_v47, val_main_v46, val_main_v45, val_main_v44, val_main_v43, val_main_v42, val_main_v41, val_main_v40, val_main_v39, val_main_v38, val_main_v37, val_main_v36]
    have e1 : (⟨d.val / 2 * 2 + 1, by omega⟩ : Fin 128) = mate d := Fin.ext (by
      show d.val / 2 * 2 + 1 = if d.val % 2 = 1 then d.val - 1 else d.val + 1
      rw [if_neg hp]; omega)
    have e0 : (⟨d.val / 2 * 2, by omega⟩ : Fin 128) = d := Fin.ext (by show d.val / 2 * 2 = d.val; omega)
    rw [e1, e0]

end Cert.Proj.Ref

end
-- ==== Proof.Proj.KBody.lean ====
module

public import proofs.«01_k».proof.Proof.Proj.Loads
public import proofs.«01_k».proof.Proof.Gen.KernelKIdeal.Value

@[expose] public section

set_option maxRecDepth 16384

noncomputable section

namespace Cert.Proj.K

open Cert.KernelKIdeal Cert.KernelKIdeal.Gen Idealize.ShloMosaic Idealize.ShloMosaic.TcCoe Cert.Proj

variable (c : Dev nD) (i : grid0.Coords) (arg1 : Memref sig .tc .vmem S1536x8192 .bf16) (harg1 : arg1.IsWhole)
  (arg2 : Memref sig .tc .vmem S1024x16x256 .i8) (harg2 : arg2.IsWhole)
  (arg3 : Memref sig .tc .vmem S1024x256 .bf16) (harg3 : arg3.IsWhole)
  (arg4 : Memref sig .tc .vmem S1536x128 .f32) (harg4 : arg4.IsWhole)
  (arg5 : Memref sig .tc .vmem S1536x128 .f32) (harg5 : arg5.IsWhole)
  (arg6 : Memref sig .tc .vmem S1x128 .f32) (harg6 : arg6.IsWhole)
  (arg7 : Memref sig .tc .vmem S1536x8x128 .bf16) (harg7 : arg7.IsWhole)
  (arg8 : Memref sig .tc .vmem S256x8192 .bf16) (harg8 : arg8.IsWhole)
  (x0 : Vec Ideal S1536x8192 .bf16) (x1 : Vec Ideal S1024x16x256 .i8) (x2 : Vec Ideal S1024x256 .bf16)
  (x3 : Vec Ideal S1536x128 .f32) (x4 : Vec Ideal S1536x128 .f32) (x5 : Vec Ideal S1x128 .f32)

/-- The scratch after phase 0's stores. -/
theorem scratch0 : kernelRun0_A.sl.HS0_32 c arg2 harg2 arg3 harg3 x1 x2
    = pieces (bytes arg2 harg2 x1 0) (scales arg3 harg3 x2 0) ++ [] := rfl

/-- The scratch after phase 1's stores. -/
theorem scratch1 : kernelRun0_A.sl.HS0_64 c arg2 harg2 arg3 harg3 x1 x2
    = pieces (bytes arg2 harg2 x1 1) (scales arg3 harg3 x2 1) ++ kernelRun0_A.sl.HS0_32 c arg2 harg2 arg3 harg3 x1 x2 := rfl

/-- The scratch after phase 2's stores. -/
theorem scratch2 : kernelRun0_A.sl.HS0_96 c arg2 harg2 arg3 harg3 x1 x2
    = pieces (bytes arg2 harg2 x1 2) (scales arg3 harg3 x2 2) ++ kernelRun0_A.sl.HS0_64 c arg2 harg2 arg3 harg3 x1 x2 := rfl

/-- The scratch after phase 3's stores. -/
theorem scratch3 : kernelRun0_A.sl.HS0_128 c arg2 harg2 arg3 harg3 x1 x2
    = pieces (bytes arg2 harg2 x1 3) (scales arg3 harg3 x2 3) ++ kernelRun0_A.sl.HS0_96 c arg2 harg2 arg3 harg3 x1 x2 := rfl

/-- The stores into the scratch up to the end of each phase. -/
def scratch (p : Fin 4) : List (View.Piece (Elt Ideal) SWeights .bf16) :=
  match p with
  | 0 => kernelRun0_A.sl.HS0_32 c arg2 harg2 arg3 harg3 x1 x2
  | 1 => kernelRun0_A.sl.HS0_64 c arg2 harg2 arg3 harg3 x1 x2
  | 2 => kernelRun0_A.sl.HS0_96 c arg2 harg2 arg3 harg3 x1 x2
  | 3 => kernelRun0_A.sl.HS0_128 c arg2 harg2 arg3 harg3 x1 x2

/-- The stores into the scratch up to the end of a phase begin with the phase's own. -/
theorem scratch_eq (p : Fin 4) :
    ∃ L, scratch c arg2 harg2 arg3 harg3 x1 x2 p = pieces (bytes arg2 harg2 x1 p) (scales arg3 harg3 x2 p) ++ L :=
  match p with
  | 0 => ⟨_, scratch0 c arg2 harg2 arg3 harg3 x1 x2⟩
  | 1 => ⟨_, scratch1 c arg2 harg2 arg3 harg3 x1 x2⟩
  | 2 => ⟨_, scratch2 c arg2 harg2 arg3 harg3 x1 x2⟩
  | 3 => ⟨_, scratch3 c arg2 harg2 arg3 harg3 x1 x2⟩

/-- The stores of the body, as the run found them, are the forty-eight stores of two finished heads each. -/
theorem stores : (kernelRun0_A c i arg1 harg1 arg2 harg2 arg3 harg3 arg4 harg4 arg5 harg5 arg6 harg6 arg7 harg7 arg8 harg8 x0 x1 x2 x3 x4 x5).1
    = outPieces (ropeFin (gain arg6 harg6 x5) (angles arg4 harg4 x3) (angles arg5 harg5 x4))
        (fun p => phase (act arg1 harg1 x0) (unpacked arg8 (scratch c arg2 harg2 arg3 harg3 x1 x2) p)) := rfl

/-- What a grid point leaves in its output block: the projection with the head norm and the rotation. -/
theorem block_value : out0_A_6 c i arg1 harg1 arg2 harg2 arg3 harg3 arg4 harg4 arg5 harg5 arg6 harg6 arg7 harg7 arg8 harg8 x0 x1 x2 x3 x4 x5
    = ropeOut x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5),
    stores, canon_outPieces]
  exact outBlock_rope (scratch_eq c arg2 harg2 arg3 harg3 x1 x2)

end Cert.Proj.K

end
-- ==== Proof.Proj.KArray.lean ====
module

public import proofs.«01_k».proof.Proof.Proj.KBody
public import proofs.«01_k».proof.Proof.Proj.Whole

@[expose] public section

set_option maxRecDepth 16384

noncomputable section

namespace Cert.Proj.K

open Cert.KernelKIdeal Cert.KernelKIdeal.Gen Idealize.ShloMosaic Idealize.ShloMosaic.TcCoe Cert.Proj

variable (m : (ℓ : Loc nD τ sig) → Buf (Elt Ideal) ℓ)

/-- The windows' block indices at a grid point. -/
theorem idx : ∀ t : Fin cfg0.N, win0_0.index t = ![0, 0] ∧ win0_1.index t = ![t.val, 0, 0] ∧ win0_2.index t = ![t.val, 0]
    ∧ win0_3.index t = ![0, 0] ∧ win0_4.index t = ![0, 0] ∧ win0_5.index t = ![0, 0] ∧ win0_6.index t = ![0, t.val, 0] :=
  (by decide +kernel : ∀ t : Fin grid0.N, _)

theorem iblk0 (c : Dev nD) (t : Fin cfg0.N) : iblk m c 0 t = m ((c : Thread nD τ).loc main_arg0) := by
  obtain ⟨h0, h1, h2, h3, h4, h5, h6⟩ := idx t
  blk_ext! [iblk, V, h0]

theorem iblk3 (c : Dev nD) (t : Fin cfg0.N) : iblk m c 3 t = m ((c : Thread nD τ).loc main_arg3) := by
  obtain ⟨h0, h1, h2, h3, h4, h5, h6⟩ := idx t
  blk_ext! [iblk, V, h3]

theorem iblk4 (c : Dev nD) (t : Fin cfg0.N) : iblk m c 4 t = m ((c : Thread nD τ).loc main_arg4) := by
  obtain ⟨h0, h1, h2, h3, h4, h5, h6⟩ := idx t
  blk_ext! [iblk, V, h4]

theorem iblk5 (c : Dev nD) (t : Fin cfg0.N) : iblk m c 5 t = m ((c : Thread nD τ).loc main_arg5) := by
  obtain ⟨h0, h1, h2, h3, h4, h5, h6⟩ := idx t
  blk_ext! [iblk, V, h5]

theorem point_le (t : Fin cfg0.N) : 1024 * t.val + 1024 ≤ 1024 := by
  have h : t.val < 1 := t.isLt
  omega

/-- The bytes a grid point finds staged: the packed argument's rows, its last two axes exchanged. -/
theorem iblk1 (c : Dev nD) (t : Fin cfg0.N) (n : Fin 1024) (j : Fin 16) (g : Fin 256) :
    iblk m c 1 t (ix3 n j g) = m ((c : Thread nD τ).loc main_arg1) (ix3 ⟨1024 * t.val + n.val, by have := point_le t; omega⟩ g j) := by
  obtain ⟨h0, h1, h2, h3, h4, h5, h6⟩ := idx t
  blk_ext! [iblk, V, h1]

theorem iblk2 (c : Dev nD) (t : Fin cfg0.N) (n : Fin 1024) (g : Fin 256) :
    iblk m c 2 t (ix2 n g) = m ((c : Thread nD τ).loc main_arg2) (ix2 ⟨1024 * t.val + n.val, by have := point_le t; omega⟩ g) := by
  obtain ⟨h0, h1, h2, h3, h4, h5, h6⟩ := idx t
  blk_ext! [iblk, V, h2]

/-- The result array after the run. -/
theorem final (c : Dev nD) : (dats m 0 c).arrAt 6 cfg0.N
    = ropeAll (N := 1024) (H := 8) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) rfl := by
  refine (dats m 0 c).arrAt_eq_of_covers 6 _ (by decide +kernel) fun t hf y => ?_
  blk_simp
  rw [after0_6]
  unfold outsAt0
  rw [block_value]
  obtain ⟨h0, h1, h2, h3, h4, h5, h6⟩ := idx t
  obtain ⟨r, h, d, rfl⟩ : ∃ (r : Fin 1536) (h : Fin 8) (d : Fin 128), y = ix3 r h d := ⟨y 0, y 1, y 2, eq_ix3 (n0 := 1536) (n1 := 8) (n2 := 128) y⟩
  have ht := point_le t
  have e : (win0_6.blk t).view.emb (ix3 r h d) = (ix3 r ⟨8 * t.val + h.val, by omega⟩ d : S1536x8x128.Idx) := by
    blk_ext [h6]
  rw [e]
  exact ropeOut_eq rfl t.val ht (iblk0 m c t) (iblk1 m c t) (iblk2 m c t) (iblk3 m c t) (iblk4 m c t) (iblk5 m c t) r h d _ rfl

end Cert.Proj.K

end
-- ==== Proof.Proj.KRef.lean ====
module

public import proofs.«01_k».proof.Proof.Proj.QRef
public import proofs.«01_k».proof.Proof.Gen.ReferenceKIdeal.Run
public import proofs.«01_k».proof.Proof.Gen.ReferenceKIdeal.Read

@[expose] public section

set_option maxRecDepth 16384

noncomputable section

namespace Cert.Proj.RefK

open Cert.ReferenceKIdeal Cert.ReferenceKIdeal.Read Idealize.ShloMosaic Idealize.ShloMosaic.TcCoe Cert.Proj Cert.Proj.Ref

variable (X : Vec Ideal S1536x8192 .bf16) (W : Vec Ideal S1024x256x16 .i8) (Sc : Vec Ideal S1024x256 .bf16)
  (C S : Vec Ideal S1536x128 .f32) (G : Vec Ideal S1x128 .f32)

/-- The reference's projection is the sum over all columns. -/
theorem proj_apply (r : Fin 1536) (n : Fin 1024) : val_main_v21 (F := Ideal) X W Sc (ix2 r n) = projAll X W Sc r n := by
  unfold projAll
  rw [sum_halves]
  show val_main_v19 (F := Ideal) X W Sc (ix2 r n) + val_main_v20 (F := Ideal) X W Sc (ix2 r n) = _
  congr 1
  · pointwise [val_main_v19, val_main_v1, val_main_v0, val_main_v11, val_main_v9, val_main_v7, val_main_v6, val_main_v4, val_main_v5, val_main_c, val_main_v8, val_main_cst, val_main_v10, val_main_v3]
    refine Finset.sum_congr rfl fun g _ => Finset.sum_congr rfl fun j _ => ?_
    have e1 : (j.val * 256 + g.val) % 256 = g.val := by omega
    have e2 : (j.val * 256 + g.val) / 256 % 16 = j.val := by omega
    have e3 : (j.val * 256 + g.val) / 4096 = 0 := by omega
    simp only [e1, e2, e3, nib_lo, Fin.eta]
    rfl
  · pointwise [val_main_v20, val_main_v2, val_main_v0, val_main_v18, val_main_v16, val_main_v14, val_main_v13, val_main_v4, val_main_v12, val_main_c_0, val_main_v15, val_main_cst_1, val_main_v17, val_main_v3]
    refine Finset.sum_congr rfl fun g _ => Finset.sum_congr rfl fun j _ => ?_
    have e1 : ((16 + j.val) * 256 + g.val) % 256 = g.val := by omega
    have e2 : ((16 + j.val) * 256 + g.val) / 256 % 16 = j.val := by omega
    have e3 : ((16 + j.val) * 256 + g.val) / 4096 = 1 := by omega
    simp only [e1, e2, e3, nib_hi, Fin.eta]
    rfl

/-- The reference's head norm. -/
theorem heads_apply (r : Fin 1536) (h : Fin 8) (d : Fin 128) : val_main_v35 (F := Ideal) X W Sc G (ix3 r h d)
    = headNorm (fun d => projAll X W Sc r ⟨128 * h.val + d.val, headColAll_lt rfl h d⟩) (fun d => G (ix2 0 d)) d := by
  pointwise [val_main_v35, val_main_v34, val_main_v33, val_main_v32, val_main_v31, val_main_v30, val_main_v29, val_main_v28, val_main_cst_4, val_main_v27, val_main_v26, val_main_cst_3, val_main_v25, val_main_v24, val_main_cst_2, val_main_v23, val_main_v22]
  simp only [proj_apply, ofBits_128, Ideal.div_coe (show (128 : ℝ) ≠ 0 by norm_num)]
  unfold headNorm invRms
  rw [ofBits_inv_128]
  simp only [Nat.mul_comm]

/-- The reference's result is the whole projection with the head norm and the rotation. -/
theorem out_eq : val_main_v65 (F := Ideal) X W Sc C S G = ropeAll (N := 1024) (H := 8) X W Sc C S G rfl := by
  funext i
  obtain ⟨r, h, d, rfl⟩ : ∃ (r : Fin 1536) (h : Fin 8) (d : Fin 128), i = ix3 r h d := ⟨i 0, i 1, i 2, eq_ix3 (n0 := 1536) (n1 := 8) (n2 := 128) i⟩
  have e : ropeAll (N := 1024) (H := 8) X W Sc C S G rfl (ix3 r h d) = rope (fun d => val_main_v35 (F := Ideal) X W Sc G (ix3 r h d))
    (fun d => C (ix2 r d)) (fun d => S (ix2 r d)) d := by
    simp only [heads_apply]
    rfl
  rw [e]
  have hd := d.isLt
  pointwise [val_main_v65, val_main_v64, val_main_v63, val_main_v62, val_main_v61]
  unfold rope
  by_cases hp : d.val % 2 = 1
  · rw [dif_neg (by omega)]
    pointwise [val_main_v60, val_main_v59, val_main_v58, val_main_v57, val_main_v56, val_main_v55, val_main_v54, val_main_v53, val_main_v52, val_main_v42, val_main_v41, val_main_v40, val_main_v39, val_main_v38, val_main_v37, val_main_v36]
    have e1 : (⟨d.val / 2 * 2 + 1, by omega⟩ : Fin 128) = d := Fin.ext (by show d.val / 2 * 2 + 1 = d.val; omega)
    have e0 : (⟨d.val / 2 * 2, by omega⟩ : Fin 128) = mate d := Fin.ext (by
      show d.val / 2 * 2 = if d.val % 2 = 1 then d.val - 1 else d.val + 1
      rw [if_pos hp]; omega)
    rw [e1, e0, add_comm]
  · rw [dif_pos (by omega)]
    pointwise [val_main_v51, val_main_v50, val_main_v49, val_main_v48, val_main_v47, val_main_v46, val_main_v45, val_main_v44, val_main_v43, val_main_v42, val_main_v41, val_main_v40, val_main_v39, val_main_v38, val_main_v37, val_main_v36]
    have e1 : (⟨d.val / 2 * 2 + 1, by omega⟩ : Fin 128) = mate d := Fin.ext (by
      show d.val / 2 * 2 + 1 = if d.val % 2 = 1 then d.val - 1 else d.val + 1
      rw [if_neg hp]; omega)
    have e0 : (⟨d.val / 2 * 2, by omega⟩ : Fin 128) = d := Fin.ext (by show d.val / 2 * 2 = d.val; omega)
    rw [e1, e0]

end Cert.Proj.RefK

end
-- ==== Proof.Proj.VBody.lean ====
module

public import proofs.«01_k».proof.Proof.Proj.Loads
public import proofs.«01_k».proof.Proof.Gen.KernelVIdeal.Value

@[expose] public section

set_option maxRecDepth 16384

noncomputable section

namespace Cert.Proj.V

open Cert.KernelVIdeal Cert.KernelVIdeal.Gen Idealize.ShloMosaic Idealize.ShloMosaic.TcCoe Cert.Proj

variable (c : Dev nD) (i : grid0.Coords) (arg1 : Memref sig .tc .vmem S1536x8192 .bf16) (harg1 : arg1.IsWhole)
  (arg2 : Memref sig .tc .vmem S1024x16x256 .i8) (harg2 : arg2.IsWhole)
  (arg3 : Memref sig .tc .vmem S1024x256 .bf16) (harg3 : arg3.IsWhole)
  (arg4 : Memref sig .tc .vmem S1536x128 .f32) (harg4 : arg4.IsWhole)
  (arg5 : Memref sig .tc .vmem S1536x128 .f32) (harg5 : arg5.IsWhole)
  (arg6 : Memref sig .tc .vmem S1x128 .f32) (harg6 : arg6.IsWhole)
  (arg7 : Memref sig .tc .vmem S1536x8x128 .bf16) (harg7 : arg7.IsWhole)
  (arg8 : Memref sig .tc .vmem S256x8192 .bf16) (harg8 : arg8.IsWhole)
  (x0 : Vec Ideal S1536x8192 .bf16) (x1 : Vec Ideal S1024x16x256 .i8) (x2 : Vec Ideal S1024x256 .bf16)
  (x3 : Vec Ideal S1536x128 .f32) (x4 : Vec Ideal S1536x128 .f32) (x5 : Vec Ideal S1x128 .f32)

/-- The scratch after phase 0's stores. -/
theorem scratch0 : kernelRun0_A.sl.HS0_32 c arg2 harg2 arg3 harg3 x1 x2
    = pieces (bytes arg2 harg2 x1 0) (scales arg3 harg3 x2 0) ++ [] := rfl

/-- The scratch after phase 1's stores. -/
theorem scratch1 : kernelRun0_A.sl.HS0_64 c arg2 harg2 arg3 harg3 x1 x2
    = pieces (bytes arg2 harg2 x1 1) (scales arg3 harg3 x2 1) ++ kernelRun0_A.sl.HS0_32 c arg2 harg2 arg3 harg3 x1 x2 := rfl

/-- The scratch after phase 2's stores. -/
theorem scratch2 : kernelRun0_A.sl.HS0_96 c arg2 harg2 arg3 harg3 x1 x2
    = pieces (bytes arg2 harg2 x1 2) (scales arg3 harg3 x2 2) ++ kernelRun0_A.sl.HS0_64 c arg2 harg2 arg3 harg3 x1 x2 := rfl

/-- The scratch after phase 3's stores. -/
theorem scratch3 : kernelRun0_A.sl.HS0_128 c arg2 harg2 arg3 harg3 x1 x2
    = pieces (bytes arg2 harg2 x1 3) (scales arg3 harg3 x2 3) ++ kernelRun0_A.sl.HS0_96 c arg2 harg2 arg3 harg3 x1 x2 := rfl

/-- The stores into the scratch up to the end of each phase. -/
def scratch (p : Fin 4) : List (View.Piece (Elt Ideal) SWeights .bf16) :=
  match p with
  | 0 => kernelRun0_A.sl.HS0_32 c arg2 harg2 arg3 harg3 x1 x2
  | 1 => kernelRun0_A.sl.HS0_64 c arg2 harg2 arg3 harg3 x1 x2
  | 2 => kernelRun0_A.sl.HS0_96 c arg2 harg2 arg3 harg3 x1 x2
  | 3 => kernelRun0_A.sl.HS0_128 c arg2 harg2 arg3 harg3 x1 x2

/-- The stores into the scratch up to the end of a phase begin with the phase's own. -/
theorem scratch_eq (p : Fin 4) :
    ∃ L, scratch c arg2 harg2 arg3 harg3 x1 x2 p = pieces (bytes arg2 harg2 x1 p) (scales arg3 harg3 x2 p) ++ L :=
  match p with
  | 0 => ⟨_, scratch0 c arg2 harg2 arg3 harg3 x1 x2⟩
  | 1 => ⟨_, scratch1 c arg2 harg2 arg3 harg3 x1 x2⟩
  | 2 => ⟨_, scratch2 c arg2 harg2 arg3 harg3 x1 x2⟩
  | 3 => ⟨_, scratch3 c arg2 harg2 arg3 harg3 x1 x2⟩

/-- The stores of the body, as the run found them, are the forty-eight stores of two heads each. -/
theorem stores : (kernelRun0_A c i arg1 harg1 arg2 harg2 arg3 harg3 arg4 harg4 arg5 harg5 arg6 harg6 arg7 harg7 arg8 harg8 x0 x1 x2 x3 x4 x5).1
    = outPieces plainFin
        (fun p => phase (act arg1 harg1 x0) (unpacked arg8 (scratch c arg2 harg2 arg3 harg3 x1 x2) p)) := rfl

/-- What a grid point leaves in its output block: the bare projection. -/
theorem block_value : out0_A_6 c i arg1 harg1 arg2 harg2 arg3 harg3 arg4 harg4 arg5 harg5 arg6 harg6 arg7 harg7 arg8 harg8 x0 x1 x2 x3 x4 x5
    = plainOut x0 x1 x2 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5),
    stores, canon_outPieces]
  exact outBlock_plain (scratch_eq c arg2 harg2 arg3 harg3 x1 x2)

end Cert.Proj.V

end
-- ==== Proof.Proj.VArray.lean ====
module

public import proofs.«01_k».proof.Proof.Proj.VBody
public import proofs.«01_k».proof.Proof.Proj.Whole

@[expose] public section

set_option maxRecDepth 16384

noncomputable section

namespace Cert.Proj.V

open Cert.KernelVIdeal Cert.KernelVIdeal.Gen Idealize.ShloMosaic Idealize.ShloMosaic.TcCoe Cert.Proj

variable (m : (ℓ : Loc nD τ sig) → Buf (Elt Ideal) ℓ)

/-- The windows' block indices at a grid point. -/
theorem idx : ∀ t : Fin cfg0.N, win0_0.index t = ![0, 0] ∧ win0_1.index t = ![t.val, 0, 0] ∧ win0_2.index t = ![t.val, 0]
    ∧ win0_3.index t = ![0, 0] ∧ win0_4.index t = ![0, 0] ∧ win0_5.index t = ![0, 0] ∧ win0_6.index t = ![0, t.val, 0] :=
  (by decide +kernel : ∀ t : Fin grid0.N, _)

theorem iblk0 (c : Dev nD) (t : Fin cfg0.N) : iblk m c 0 t = m ((c : Thread nD τ).loc main_arg0) := by
  obtain ⟨h0, h1, h2, h3, h4, h5, h6⟩ := idx t
  blk_ext! [iblk, V, h0]

theorem point_le (t : Fin cfg0.N) : 1024 * t.val + 1024 ≤ 1024 := by
  have h : t.val < 1 := t.isLt
  omega

/-- The bytes a grid point finds staged: the packed argument's rows, its last two axes exchanged. -/
theorem iblk1 (c : Dev nD) (t : Fin cfg0.N) (n : Fin 1024) (j : Fin 16) (g : Fin 256) :
    iblk m c 1 t (ix3 n j g) = m ((c : Thread nD τ).loc main_arg1) (ix3 ⟨1024 * t.val + n.val, by have := point_le t; omega⟩ g j) := by
  obtain ⟨h0, h1, h2, h3, h4, h5, h6⟩ := idx t
  blk_ext! [iblk, V, h1]

theorem iblk2 (c : Dev nD) (t : Fin cfg0.N) (n : Fin 1024) (g : Fin 256) :
    iblk m c 2 t (ix2 n g) = m ((c : Thread nD τ).loc main_arg2) (ix2 ⟨1024 * t.val + n.val, by have := point_le t; omega⟩ g) := by
  obtain ⟨h0, h1, h2, h3, h4, h5, h6⟩ := idx t
  blk_ext! [iblk, V, h2]

/-- The result array after the run. -/
theorem final (c : Dev nD) : (dats m 0 c).arrAt 6 cfg0.N
    = plainAll (N := 1024) (H := 8) (m ((c : Thread nD τ).loc main_arg0)) (m ((c : Thread nD τ).loc main_arg1))
        (m ((c : Thread nD τ).loc main_arg2)) rfl := by
  refine (dats m 0 c).arrAt_eq_of_covers 6 _ (by decide +kernel) fun t hf y => ?_
  blk_simp
  rw [after0_6]
  unfold outsAt0
  rw [block_value]
  obtain ⟨h0, h1, h2, h3, h4, h5, h6⟩ := idx t
  obtain ⟨r, h, d, rfl⟩ : ∃ (r : Fin 1536) (h : Fin 8) (d : Fin 128), y = ix3 r h d := ⟨y 0, y 1, y 2, eq_ix3 (n0 := 1536) (n1 := 8) (n2 := 128) y⟩
  have ht := point_le t
  have e : (win0_6.blk t).view.emb (ix3 r h d) = (ix3 r ⟨8 * t.val + h.val, by omega⟩ d : S1536x8x128.Idx) := by
    blk_ext [h6]
  rw [e]
  exact plainOut_eq rfl t.val ht (iblk0 m c t) (iblk1 m c t) (iblk2 m c t) r h d _ rfl

end Cert.Proj.V

end
-- ==== Proof.Proj.VRef.lean ====
module

public import proofs.«01_k».proof.Proof.Proj.QRef
public import proofs.«01_k».proof.Proof.Gen.ReferenceVIdeal.Run
public import proofs.«01_k».proof.Proof.Gen.ReferenceVIdeal.Read

@[expose] public section

set_option maxRecDepth 16384

noncomputable section

namespace Cert.Proj.RefV

open Cert.ReferenceVIdeal Cert.ReferenceVIdeal.Read Idealize.ShloMosaic Idealize.ShloMosaic.TcCoe Cert.Proj Cert.Proj.Ref

variable (X : Vec Ideal S1536x8192 .bf16) (W : Vec Ideal S1024x256x16 .i8) (Sc : Vec Ideal S1024x256 .bf16)

/-- The reference's projection is the sum over all columns. -/
theorem proj_apply (r : Fin 1536) (n : Fin 1024) : val_main_v21 (F := Ideal) X W Sc (ix2 r n) = projAll X W Sc r n := by
  unfold projAll
  rw [sum_halves]
  show val_main_v19 (F := Ideal) X W Sc (ix2 r n) + val_main_v20 (F := Ideal) X W Sc (ix2 r n) = _
  congr 1
  · pointwise [val_main_v19, val_main_v1, val_main_v0, val_main_v11, val_main_v9, val_main_v7, val_main_v6, val_main_v4, val_main_v5, val_main_c, val_main_v8, val_main_cst, val_main_v10, val_main_v3]
    refine Finset.sum_congr rfl fun g _ => Finset.sum_congr rfl fun j _ => ?_
    have e1 : (j.val * 256 + g.val) % 256 = g.val := by omega
    have e2 : (j.val * 256 + g.val) / 256 % 16 = j.val := by omega
    have e3 : (j.val * 256 + g.val) / 4096 = 0 := by omega
    simp only [e1, e2, e3, nib_lo, Fin.eta]
    rfl
  · pointwise [val_main_v20, val_main_v2, val_main_v0, val_main_v18, val_main_v16, val_main_v14, val_main_v13, val_main_v4, val_main_v12, val_main_c_0, val_main_v15, val_main_cst_1, val_main_v17, val_main_v3]
    refine Finset.sum_congr rfl fun g _ => Finset.sum_congr rfl fun j _ => ?_
    have e1 : ((16 + j.val) * 256 + g.val) % 256 = g.val := by omega
    have e2 : ((16 + j.val) * 256 + g.val) / 256 % 16 = j.val := by omega
    have e3 : ((16 + j.val) * 256 + g.val) / 4096 = 1 := by omega
    simp only [e1, e2, e3, nib_hi, Fin.eta]
    rfl

/-- The reference's result is the whole bare projection. -/
theorem out_eq : val_main_v23 (F := Ideal) X W Sc = plainAll (N := 1024) (H := 8) X W Sc rfl := by
  funext i
  obtain ⟨r, h, d, rfl⟩ : ∃ (r : Fin 1536) (h : Fin 8) (d : Fin 128), i = ix3 r h d := ⟨i 0, i 1, i 2, eq_ix3 (n0 := 1536) (n1 := 8) (n2 := 128) i⟩
  pointwise [val_main_v23, val_main_v22]
  rw [proj_apply]
  unfold plainAll
  congr 1
  exact Fin.ext (by show h.val * 128 + d.val = 128 * h.val + d.val; omega)

end Cert.Proj.RefV

end
-- ==== Proof.Norm.Steps.lean ====
/- Steps of the norm call's body over buffers of which the proof knows only part. `held` is a buffer at contents nobody names;
   `sofar` is a buffer that agrees with a given array on a set of indices. A load or a store keeps `held`; a store into `sofar`
   whose values are the array's adds the rectangle it covers to the set. -/
module

public import proofs.«01_k».proof.Proof.Gen.KernelH.Launch
public import proofs.«01_k».proof.Proof.Gen.KernelH.Points
public import Idealize.ShloMosaic.Lib.Pipeline.FrameBody
public import Idealize.ShloMosaic.Lib.Ring
public import Idealize.ShloMosaic.Lib.Tactic

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The memref's buffer at some contents. -/
def held (c : Dev nD) {s : Shape} {e : EltTy} (M : Memref sig .tc .vmem s e) : sProp 𝕄 :=
  iprop(∃ X, owns (c : Thread nD τ) M fullShare X)

/-- The memref's buffer at contents that are `H` wherever `S` holds. -/
def sofar (c : Dev nD) {s : Shape} {e : EltTy} (M : Memref sig .tc .vmem s e) (H : s.Idx → Elt F e) (S : s.Idx → Prop) : sProp 𝕄 :=
  iprop(∃ X, ⌜∀ i, S i → X i = H i⌝ ∗ owns (c : Thread nD τ) M fullShare X)

/-- A load reads what the buffer's contents say at the coordinates loaded. -/
theorem load_owns (c : Dev nD) {s : Shape} {e : EltTy} {M : Memref sig .tc .vmem s e} {r : LoadRect s} {hl : M.view.LoadsAt r}
    {α : Type} {k : (r.shape.Idx → Elt F e) → Prog _ α} {Q : α → sProp 𝕄} (X : s.Idx → Elt F e) :
    (owns (c : Thread nD τ) M fullShare X : sProp 𝕄)
      ⊢ iprop((owns (c : Thread nD τ) M fullShare X -∗ wp frame (wpE (defs₀ (F := F)) Variants.none c none) Set.univ (k fun x => X (r.idx x)) Q)
        -∗ wp frame (wpE (defs₀ (F := F)) Variants.none c none) Set.univ (.op (.load M r hl) k) Q) := by
  unfold owns
  iintro ⟨%f, %hf, H⟩ Hk
  iapply (wp_load Variants.none (c : Thread nD τ) none Set.univ (m := M) (S := M.view.set) (by
    rw [← View.setOn_univ]; exact Finset.map_subset_map.mpr (Finset.subset_univ _))) $$ H
  iintro H
  subst hf
  iapply Hk
  iexists f; isplitr
  · ipureintro; rfl
  iexact H

/-- A store puts its values at the rectangle's indices and leaves the others. -/
theorem store_owns (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {α : Type} {k : PUnit → Prog _ α} {Q : α → sProp 𝕄} (X : s.Idx → Elt F e) :
    (owns (c : Thread nD τ) M fullShare X : sProp 𝕄)
      ⊢ iprop((∀ Y, ⌜(∀ x, Y (r.emb x) = w x) ∧ ∀ i, i ∉ r.set → Y i = X i⌝ -∗ owns (c : Thread nD τ) M fullShare Y
            -∗ wp frame (wpE (defs₀ (F := F)) Variants.none c none) Set.univ (k ⟨⟩) Q)
        -∗ wp frame (wpE (defs₀ (F := F)) Variants.none c none) Set.univ (.op (.store M r w Finset.univ hx hm) k) Q) := by
  unfold owns
  iintro ⟨%f, %hf, H⟩ Hk
  iapply (wp_store Variants.none (c : Thread nD τ) none Set.univ (m := M) (r := r) (S := M.view.set) (by
    rw [View.setOn_univ]; exact View.set_slice_subset _ _)) $$ H
  iintro H
  ispecialize Hk $$ %(M.view.read (Elt F) ((M.access r).write (Elt F) f w Finset.univ))
  iapply Hk
  · ipureintro
    refine ⟨fun x => View.read_slice_write_emb r f w (Finset.mem_univ x), fun i hi => ?_⟩
    rw [← hf]
    exact View.read_slice_write_of_not_mem r f w Finset.univ (by rw [Rect.map_emb_univ]; exact hi)
  iexists _; isplitr
  · ipureintro; rfl
  iexact H

/-- A load of a held buffer reads anything. -/
theorem load_held (c : Dev nD) {s : Shape} {e : EltTy} {M : Memref sig .tc .vmem s e} {r : LoadRect s} {hl : M.view.LoadsAt r}
    {α : Type} {k : (r.shape.Idx → Elt F e) → Prog _ α} {Q : α → sProp 𝕄} :
    (held c M : sProp 𝕄)
      ⊢ iprop((∀ v, held c M -∗ wp frame (wpE (defs₀ (F := F)) Variants.none c none) Set.univ (k v) Q)
        -∗ wp frame (wpE (defs₀ (F := F)) Variants.none c none) Set.univ (.op (.load M r hl) k) Q) := by
  unfold held
  iintro ⟨%X, H⟩ Hk
  iapply (load_owns c X) $$ H
  iintro H
  iapply Hk
  iexists X; iexact H

/-- A store into a held buffer leaves it held. -/
theorem store_held (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {α : Type} {k : PUnit → Prog _ α} {Q : α → sProp 𝕄} :
    (held c M : sProp 𝕄)
      ⊢ iprop((held c M -∗ wp frame (wpE (defs₀ (F := F)) Variants.none c none) Set.univ (k ⟨⟩) Q)
        -∗ wp frame (wpE (defs₀ (F := F)) Variants.none c none) Set.univ (.op (.store M r w Finset.univ hx hm) k) Q) := by
  unfold held
  iintro ⟨%X, H⟩ Hk
  iapply (store_owns c X) $$ H
  iintro %Y %hY H
  iapply Hk
  iexists Y; iexact H

/-- A load of a buffer known on `S` reads anything and changes nothing. -/
theorem load_sofar (c : Dev nD) {s : Shape} {e : EltTy} {M : Memref sig .tc .vmem s e} {r : LoadRect s} {hl : M.view.LoadsAt r}
    {α : Type} {k : (r.shape.Idx → Elt F e) → Prog _ α} {Q : α → sProp 𝕄} {H : s.Idx → Elt F e} {S : s.Idx → Prop} :
    (sofar c M H S : sProp 𝕄)
      ⊢ iprop((∀ v, sofar c M H S -∗ wp frame (wpE (defs₀ (F := F)) Variants.none c none) Set.univ (k v) Q)
        -∗ wp frame (wpE (defs₀ (F := F)) Variants.none c none) Set.univ (.op (.load M r hl) k) Q) := by
  unfold sofar
  iintro ⟨%X, %hX, H⟩ Hk
  iapply (load_owns c X) $$ H
  iintro H
  iapply Hk
  iexists X; isplitr
  · ipureintro; exact hX
  iexact H

/-- A store of the array's own values adds the indices it covers to those known. -/
theorem store_sofar (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {α : Type} {k : PUnit → Prog _ α} {Q : α → sProp 𝕄} {H : s.Idx → Elt F e} {S S' : s.Idx → Prop}
    (hw : ∀ x, w x = H (r.emb x)) (hS : ∀ i, S' i → S i ∨ i ∈ r.set) :
    (sofar c M H S : sProp 𝕄)
      ⊢ iprop((sofar c M H S' -∗ wp frame (wpE (defs₀ (F := F)) Variants.none c none) Set.univ (k ⟨⟩) Q)
        -∗ wp frame (wpE (defs₀ (F := F)) Variants.none c none) Set.univ (.op (.store M r w Finset.univ hx hm) k) Q) := by
  unfold sofar
  iintro ⟨%X, %hX, H⟩ Hk
  iapply (store_owns c X) $$ H
  iintro %Y %hY H
  iapply Hk
  iexists Y; isplitr
  · ipureintro
    intro i hi
    by_cases hr : i ∈ r.set
    · obtain ⟨x, -, rfl⟩ := Finset.mem_map.mp (r.map_emb_univ.symm ▸ hr)
      rw [← hw x]; exact hY.1 x
    · rw [hY.2 i hr]; exact hX i ((hS i hi).resolve_right hr)
  iexact H

end Cert.Norm

end
-- ==== Proof.Norm.Moves.lean ====
/- The state of the norm call's body and its steps. The five inputs are held at their contents, `h` is known on a set of
   indices, and the other six buffers are held at contents nobody names. Each step of the body is one lemma: what follows the
   step, proved from the state after it. -/
module

public import proofs.«01_k».proof.Proof.Norm.Steps

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {a1 : Memref sig .tc .vmem S256x8192 .bf16}
variable {a2 : Memref sig .tc .vmem S256x8192 .bf16}
variable {a3 : Memref sig .tc .vmem S1x8192 .f32}
variable {a4 : Memref sig .tc .vmem S1x1x256 .i32}
variable {a5 : Memref sig .tc .vmem S1x128 .f32}
variable {a6 : Memref sig .tc .vmem S256x8192 .bf16}
variable {a7 : Memref sig .tc .vmem S256x8192 .bf16}
variable {a8 : Memref sig .tc .vmem S256x128 .f32}
variable {a9 : Memref sig .tc .vmem S256x128 .f32}
variable {a10 : Memref sig .tc .vmem S256x8192 .bf16}
variable {a11 : Memref sig .tc .vmem S8448x128 .i32}

/-- The contents of the five inputs. -/
structure Ins (F : FTy → Type) where
  x : S256x8192.Idx → Elt F .bf16
  r : S256x8192.Idx → Elt F .bf16
  w : S1x8192.Idx → Elt F .f32
  p : S1x1x256.Idx → Elt F .i32
  q : S1x128.Idx → Elt F .f32

/-- The state: the inputs at their contents, `h` agreeing with `H` on `S`, the rest at any contents. -/
def St (c : Dev nD) (a1 : Memref sig .tc .vmem S256x8192 .bf16) (a2 : Memref sig .tc .vmem S256x8192 .bf16) (a3 : Memref sig .tc .vmem S1x8192 .f32) (a4 : Memref sig .tc .vmem S1x1x256 .i32) (a5 : Memref sig .tc .vmem S1x128 .f32) (a6 : Memref sig .tc .vmem S256x8192 .bf16) (a7 : Memref sig .tc .vmem S256x8192 .bf16) (a8 : Memref sig .tc .vmem S256x128 .f32) (a9 : Memref sig .tc .vmem S256x128 .f32) (a10 : Memref sig .tc .vmem S256x8192 .bf16) (a11 : Memref sig .tc .vmem S8448x128 .i32)
    (I : Ins F) (H : S256x8192.Idx → Elt F .bf16) (S : S256x8192.Idx → Prop) : sProp 𝕄 :=
  iprop(owns (c : Thread nD τ) a1 fullShare I.x
    ∗ owns (c : Thread nD τ) a2 fullShare I.r
    ∗ owns (c : Thread nD τ) a3 fullShare I.w
    ∗ owns (c : Thread nD τ) a4 fullShare I.p
    ∗ owns (c : Thread nD τ) a5 fullShare I.q
    ∗ sofar c a6 H S
    ∗ held c a7
    ∗ held c a8
    ∗ held c a9
    ∗ held c a10
    ∗ held c a11)

variable {c : Dev nD} {I : Ins F} {H : S256x8192.Idx → Elt F .bf16} {S : S256x8192.Idx → Prop}

/-- A load of the input x reads its contents at the coordinates loaded. -/
theorem St.load1 {r : LoadRect S256x8192} {hl : a1.view.LoadsAt r} {α : Type} {k : (r.shape.Idx → Elt F .bf16) → Prog _ α}
    {Q : α → sProp 𝕄} (h : St c a1 a2 a3 a4 a5 a6 a7 a8 a9 a10 a11 I H S ⊢ wp frame (wpE (defs₀ (F := F)) Variants.none c none) Set.univ (k fun y => I.x (r.idx y)) Q) :
    St c a1 a2 a3 a4 a5 a6 a7 a8 a9 a10 a11 I H S ⊢ wp frame (wpE (defs₀ (F := F)) Variants.none c none) Set.univ (Prog.lift (.load a1 r hl) >>= k) Q := by
  rw [Prog.bind_lift]
  unfold St at h ⊢
  iintro ⟨H1, H2, H3, H4, H5, H6, H7, H8, H9, H10, H11⟩
  iapply (load_owns c I.x) $$ H1
  iintro H1
  iapply h
  iframe

/-- A load of the residual reads its contents at the coordinates loaded. -/
theorem St.load2 {r : LoadRect S256x8192} {hl : a2.view.LoadsAt r} {α : Type} {k : (r.shape.Idx → Elt F .bf16) → Prog _ α}
    {Q : α → sProp 𝕄} (h : St c a1 a2 a3 a4 a5 a6 a7 a8 a9 a10 a11 I H S ⊢ wp frame (wpE (defs₀ (F := F)) Variants.none c none) Set.univ (k fun y => I.r (r.idx y)) Q) :
    St c a1 a2 a3 a4 a5 a6 a7 a8 a9 a10 a11 I H S ⊢ wp frame (wpE (defs₀ (F := F)) Variants.none c none) Set.univ (Prog.lift (.load a2 r hl) >>= k) Q := by
  rw [Prog.bind_lift]
  unfold St at h ⊢
  iintro ⟨H1, H2, H3, H4, H5, H6, H7, H8, H9, H10, H11⟩
  iapply (load_owns c I.r) $$ H2
  iintro H2
  iapply h
  iframe

/-- A load of the weights reads its contents at the coordinates loaded. -/
theorem St.load3 {r : LoadRect S1x8192} {hl : a3.view.LoadsAt r} {α : Type} {k : (r.shape.Idx → Elt F .f32) → Prog _ α}
    {Q : α → sProp 𝕄} (h : St c a1 a2 a3 a4 a5 a6 a7 a8 a9 a10 a11 I H S ⊢ wp frame (wpE (defs₀ (F := F)) Variants.none c none) Set.univ (k fun y => I.w (r.idx y)) Q) :
    St c a1 a2 a3 a4 a5 a6 a7 a8 a9 a10 a11 I H S ⊢ wp frame (wpE (defs₀ (F := F)) Variants.none c none) Set.univ (Prog.lift (.load a3 r hl) >>= k) Q := by
  rw [Prog.bind_lift]
  unfold St at h ⊢
  iintro ⟨H1, H2, H3, H4, H5, H6, H7, H8, H9, H10, H11⟩
  iapply (load_owns c I.w) $$ H3
  iintro H3
  iapply h
  iframe

/-- A load of the positions reads its contents at the coordinates loaded. -/
theorem St.load4 {r : LoadRect S1x1x256} {hl : a4.view.LoadsAt r} {α : Type} {k : (r.shape.Idx → Elt F .i32) → Prog _ α}
    {Q : α → sProp 𝕄} (h : St c a1 a2 a3 a4 a5 a6 a7 a8 a9 a10 a11 I H S ⊢ wp frame (wpE (defs₀ (F := F)) Variants.none c none) Set.univ (k fun y => I.p (r.idx y)) Q) :
    St c a1 a2 a3 a4 a5 a6 a7 a8 a9 a10 a11 I H S ⊢ wp frame (wpE (defs₀ (F := F)) Variants.none c none) Set.univ (Prog.lift (.load a4 r hl) >>= k) Q := by
  rw [Prog.bind_lift]
  unfold St at h ⊢
  iintro ⟨H1, H2, H3, H4, H5, H6, H7, H8, H9, H10, H11⟩
  iapply (load_owns c I.p) $$ H4
  iintro H4
  iapply h
  iframe

/-- A load of the frequencies reads its contents at the coordinates loaded. -/
theorem St.load5 {r : LoadRect S1x128} {hl : a5.view.LoadsAt r} {α : Type} {k : (r.shape.Idx → Elt F .f32) → Prog _ α}
    {Q : α → sProp 𝕄} (h : St c a1 a2 a3 a4 a5 a6 a7 a8 a9 a10 a11 I H S ⊢ wp frame (wpE (defs₀ (F := F)) Variants.none c none) Set.univ (k fun y => I.q (r.idx y)) Q) :
    St c a1 a2 a3 a4 a5 a6 a7 a8 a9 a10 a11 I H S ⊢ wp frame (wpE (defs₀ (F := F)) Variants.none c none) Set.univ (Prog.lift (.load a5 r hl) >>= k) Q := by
  rw [Prog.bind_lift]
  unfold St at h ⊢
  iintro ⟨H1, H2, H3, H4, H5, H6, H7, H8, H9, H10, H11⟩
  iapply (load_owns c I.q) $$ H5
  iintro H5
  iapply h
  iframe

/-- A load of h reads anything. -/
theorem St.load6 {r : LoadRect S256x8192} {hl : a6.view.LoadsAt r} {α : Type} {k : (r.shape.Idx → Elt F .bf16) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a6 r hl) >>= k) Q := by
  rw [Prog.bind_lift]
  unfold St at h ⊢
  iintro ⟨H1, H2, H3, H4, H5, H6, H7, H8, H9, H10, H11⟩
  iapply (load_sofar c) $$ H6
  iintro %v H6
  iapply (h v)
  iframe

/-- A load of xp reads anything. -/
theorem St.load7 {r : LoadRect S256x8192} {hl : a7.view.LoadsAt r} {α : Type} {k : (r.shape.Idx → Elt F .bf16) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a7 r hl) >>= k) Q := by
  rw [Prog.bind_lift]
  unfold St at h ⊢
  iintro ⟨H1, H2, H3, H4, H5, H6, H7, H8, H9, H10, H11⟩
  iapply (load_held c) $$ H7
  iintro %v H7
  iapply (h v)
  iframe

/-- A load of the cosines reads anything. -/
theorem St.load8 {r : LoadRect S256x128} {hl : a8.view.LoadsAt r} {α : Type} {k : (r.shape.Idx → Elt F .f32) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a8 r hl) >>= k) Q := by
  rw [Prog.bind_lift]
  unfold St at h ⊢
  iintro ⟨H1, H2, H3, H4, H5, H6, H7, H8, H9, H10, H11⟩
  iapply (load_held c) $$ H8
  iintro %v H8
  iapply (h v)
  iframe

/-- A load of the sines reads anything. -/
theorem St.load9 {r : LoadRect S256x128} {hl : a9.view.LoadsAt r} {α : Type} {k : (r.shape.Idx → Elt F .f32) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a9 r hl) >>= k) Q := by
  rw [Prog.bind_lift]
  unfold St at h ⊢
  iintro ⟨H1, H2, H3, H4, H5, H6, H7, H8, H9, H10, H11⟩
  iapply (load_held c) $$ H9
  iintro %v H9
  iapply (h v)
  iframe

/-- A load of the normalized rows reads anything. -/
theorem St.load10 {r : LoadRect S256x8192} {hl : a10.view.LoadsAt r} {α : Type} {k : (r.shape.Idx → Elt F .bf16) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a10 r hl) >>= k) Q := by
  rw [Prog.bind_lift]
  unfold St at h ⊢
  iintro ⟨H1, H2, H3, H4, H5, H6, H7, H8, H9, H10, H11⟩
  iapply (load_held c) $$ H10
  iintro %v H10
  iapply (h v)
  iframe

/-- A load of the transposed words reads anything. -/
theorem St.load11 {r : LoadRect S8448x128} {hl : a11.view.LoadsAt r} {α : Type} {k : (r.shape.Idx → Elt F .i32) → Prog _ α}
    {Q : α → sProp 𝕄} (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (Prog.lift (.load a11 r hl) >>= k) Q := by
  rw [Prog.bind_lift]
  unfold St at h ⊢
  iintro ⟨H1, H2, H3, H4, H5, H6, H7, H8, H9, H10, H11⟩
  iapply (load_held c) $$ H11
  iintro %v H11
  iapply (h v)
  iframe

/-- A store of h's own values makes h known where it stores. -/
theorem St.store6 {r : Rect S256x8192} {w : r.shape.Idx → Elt F .bf16} {hx : (a6.access r).Stores Finset.univ}
    {hm : (Finset.univ : Finset r.shape.Idx) = Finset.univ ∨ ∀ a, r.stride a = 1} {α : Type} {k : PUnit → Prog _ α}
    {Q : α → sProp 𝕄} {S' : S256x8192.Idx → Prop} (hw : ∀ x, w x = H (r.emb x)) (hS : ∀ i, S' i → S i ∨ i ∈ r.set) (h : St c a1 a2 a3 a4 a5 a6 a7 a8 a9 a10 a11 I H S' ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a6 r w Finset.univ hx hm) >>= k) Q := by
  rw [Prog.bind_lift]
  unfold St at h ⊢
  iintro ⟨H1, H2, H3, H4, H5, H6, H7, H8, H9, H10, H11⟩
  iapply (store_sofar c hw hS) $$ H6
  iintro H6
  iapply h
  iframe

/-- A store into xp changes nothing that is known. -/
theorem St.store7 {r : Rect S256x8192} {w : r.shape.Idx → Elt F .bf16} {hx : (a7.access r).Stores Finset.univ}
    {hm : (Finset.univ : Finset r.shape.Idx) = Finset.univ ∨ ∀ a, r.stride a = 1} {α : Type} {k : PUnit → Prog _ α}
    {Q : α → sProp 𝕄} (h : St c a1 a2 a3 a4 a5 a6 a7 a8 a9 a10 a11 I H S ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a7 r w Finset.univ hx hm) >>= k) Q := by
  rw [Prog.bind_lift]
  unfold St at h ⊢
  iintro ⟨H1, H2, H3, H4, H5, H6, H7, H8, H9, H10, H11⟩
  iapply (store_held c) $$ H7
  iintro H7
  iapply h
  iframe

/-- A store into the cosines changes nothing that is known. -/
theorem St.store8 {r : Rect S256x128} {w : r.shape.Idx → Elt F .f32} {hx : (a8.access r).Stores Finset.univ}
    {hm : (Finset.univ : Finset r.shape.Idx) = Finset.univ ∨ ∀ a, r.stride a = 1} {α : Type} {k : PUnit → Prog _ α}
    {Q : α → sProp 𝕄} (h : St c a1 a2 a3 a4 a5 a6 a7 a8 a9 a10 a11 I H S ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a8 r w Finset.univ hx hm) >>= k) Q := by
  rw [Prog.bind_lift]
  unfold St at h ⊢
  iintro ⟨H1, H2, H3, H4, H5, H6, H7, H8, H9, H10, H11⟩
  iapply (store_held c) $$ H8
  iintro H8
  iapply h
  iframe

/-- A store into the sines changes nothing that is known. -/
theorem St.store9 {r : Rect S256x128} {w : r.shape.Idx → Elt F .f32} {hx : (a9.access r).Stores Finset.univ}
    {hm : (Finset.univ : Finset r.shape.Idx) = Finset.univ ∨ ∀ a, r.stride a = 1} {α : Type} {k : PUnit → Prog _ α}
    {Q : α → sProp 𝕄} (h : St c a1 a2 a3 a4 a5 a6 a7 a8 a9 a10 a11 I H S ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a9 r w Finset.univ hx hm) >>= k) Q := by
  rw [Prog.bind_lift]
  unfold St at h ⊢
  iintro ⟨H1, H2, H3, H4, H5, H6, H7, H8, H9, H10, H11⟩
  iapply (store_held c) $$ H9
  iintro H9
  iapply h
  iframe

/-- A store into the normalized rows changes nothing that is known. -/
theorem St.store10 {r : Rect S256x8192} {w : r.shape.Idx → Elt F .bf16} {hx : (a10.access r).Stores Finset.univ}
    {hm : (Finset.univ : Finset r.shape.Idx) = Finset.univ ∨ ∀ a, r.stride a = 1} {α : Type} {k : PUnit → Prog _ α}
    {Q : α → sProp 𝕄} (h : St c a1 a2 a3 a4 a5 a6 a7 a8 a9 a10 a11 I H S ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a10 r w Finset.univ hx hm) >>= k) Q := by
  rw [Prog.bind_lift]
  unfold St at h ⊢
  iintro ⟨H1, H2, H3, H4, H5, H6, H7, H8, H9, H10, H11⟩
  iapply (store_held c) $$ H10
  iintro H10
  iapply h
  iframe

/-- A store into the transposed words changes nothing that is known. -/
theorem St.store11 {r : Rect S8448x128} {w : r.shape.Idx → Elt F .i32} {hx : (a11.access r).Stores Finset.univ}
    {hm : (Finset.univ : Finset r.shape.Idx) = Finset.univ ∨ ∀ a, r.stride a = 1} {α : Type} {k : PUnit → Prog _ α}
    {Q : α → sProp 𝕄} (h : St c a1 a2 a3 a4 a5 a6 a7 a8 a9 a10 a11 I H S ⊢ wp frame (wpE (defs₀ (F := F)) Variants.none c none) Set.univ (k ⟨⟩) Q) :
    St c a1 a2 a3 a4 a5 a6 a7 a8 a9 a10 a11 I H S ⊢ wp frame (wpE (defs₀ (F := F)) Variants.none c none) Set.univ (Prog.lift (.store a11 r w Finset.univ hx hm) >>= k) Q := by
  rw [Prog.bind_lift]
  unfold St at h ⊢
  iintro ⟨H1, H2, H3, H4, H5, H6, H7, H8, H9, H10, H11⟩
  iapply (store_held c) $$ H11
  iintro H11
  iapply h
  iframe

/-- The end of a stretch: its state is the one promised. -/
theorem St.done {α : Type} {x : α} : St c a1 a2 a3 a4 a5 a6 a7 a8 a9 a10 a11 I H S ⊢ wp frame (wpE (defs₀ (F := F)) Variants.none c none) Set.univ (pure x) (fun _ => St c a1 a2 a3 a4 a5 a6 a7 a8 a9 a10 a11 I H S) := by
  rw [Prog.pure_eq_ret, wp_ret]
  iintro HS
  imodintro
  iexact HS

/-- A stretch that keeps the state, and what follows it. -/
theorem St.next {α β : Type} {p : Prog (TpuEff nD τ sig (Elt F) Λ₀ .tc) β} {k : β → Prog _ α} {Q : α → sProp 𝕄}
    (hp : St c a1 a2 a3 a4 a5 a6 a7 a8 a9 a10 a11 I H S ⊢ wp frame (wpE (defs₀ (F := F)) Variants.none c none) Set.univ p (fun _ => St c a1 a2 a3 a4 a5 a6 a7 a8 a9 a10 a11 I H S)) (h : ∀ v, St c a1 a2 a3 a4 a5 a6 a7 a8 a9 a10 a11 I H S ⊢ wp frame (wpE (defs₀ (F := F)) Variants.none c none) Set.univ (k v) Q) :
    St c a1 a2 a3 a4 a5 a6 a7 a8 a9 a10 a11 I H S ⊢ wp frame (wpE (defs₀ (F := F)) Variants.none c none) Set.univ (p >>= k) Q := by
  rw [wp_bind]
  exact BI.Entails.trans hp (wp_mono _ _ _ h)

/-- What is known on a set is known on a smaller one. -/
theorem St.mono {S' : S256x8192.Idx → Prop} (h : ∀ i, S' i → S i) : St c a1 a2 a3 a4 a5 a6 a7 a8 a9 a10 a11 I H S ⊢ St c a1 a2 a3 a4 a5 a6 a7 a8 a9 a10 a11 I H S' := by
  unfold St sofar
  iintro ⟨H1, H2, H3, H4, H5, ⟨%X, %hX, H6⟩, H7, H8, H9, H10, H11⟩
  iframe
  iexists X
  iframe
  ipureintro
  exact fun i hi => hX i (h i hi)

end Cert.Norm

end
-- ==== Proof.Norm.Loop.lean ====
/- The loop of the norm call's body. Trip `t` adds the residual to rows `16 * t … 16 * t + 15` of x, 1024 columns at a time, and
   stores the rounded sums into `h`: eight stores, after which those rows of `h` are the sums. The rest of the trip normalizes the
   rows and leaves `h` alone. -/
module

public import proofs.«01_k».proof.Proof.Norm.Moves
public import proofs.«01_k».proof.Proof.Gen.KernelH.Skeleton

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The sums the call stores into `h`: x plus the residual in f32, rounded to bf16. -/
def sums (x r : S256x8192.Idx → Elt F .bf16) : S256x8192.Idx → Elt F .bf16 :=
  truncf (s := S256x8192) .bf16 (addf (s := S256x8192) (extf (s := S256x8192) .f32 x bitsLt_bf16_f32) (extf (s := S256x8192) .f32 r bitsLt_bf16_f32)) bitsLt_bf16_f32

/-- The indices of `h` known before trip `t`'s store number `j`: the rows of the trips before it, and of its own rows the first
    `j` groups of 1024 columns. -/
def known (t j : Nat) (i : S256x8192.Idx) : Prop :=
  (i 0).val < 16 * t ∨ ((i 0).val < 16 * (t + 1) ∧ (i 1).val < 1024 * j)

/-- Nothing is known at the start. -/
theorem known_zero (i : S256x8192.Idx) : ¬ known 0 0 i := by
  unfold known; omega

/-- After the eighth store of a trip its rows are known. -/
theorem known_row (t : Nat) (i : S256x8192.Idx) (h : known (t + 1) 0 i) : known t 8 i := by
  have h1 : (i 1).val < 8192 := (i 1).isLt
  unfold known at h ⊢; omega

/-- After the sixteenth trip all of `h` is known. -/
theorem known_all (i : S256x8192.Idx) : known 16 0 i := by
  have h0 : (i 0).val < 256 := (i 0).isLt
  unfold known; omega

/-- Store number `j` of trip `t` covers the 1024 columns of the trip's rows after those already known. -/
theorem known_store {t j : Nat} {o : Fin 2 → Nat} {inb : ∀ a, o a + S16x1024.size a ≤ S256x8192.size a}
    (h0 : o 0 = 16 * t) (h1 : o 1 = 1024 * j) (i : S256x8192.Idx) (h : known t (j + 1) i) :
    known t j i ∨ i ∈ (Rect.unit (s := S256x8192) o S16x1024.size inb).set := by
  by_cases hk : known t j i
  · exact .inl hk
  refine .inr ((LoadRect.mem_set _).mpr fun a => ?_)
  unfold known at h hk
  have e0 : S16x1024.size 0 = 16 := rfl
  have e1 : S16x1024.size 1 = 1024 := rfl
  fin_cases a
  · refine ⟨(i 0).val - 16 * t, ?_, ?_⟩
    · show (i 0).val - 16 * t < 16
      omega
    · show (i 0).val = o 0 + 1 * ((i 0).val - 16 * t)
      omega
  · refine ⟨(i 1).val - 1024 * j, ?_, ?_⟩
    · show (i 1).val - 1024 * j < 1024
      omega
    · show (i 1).val = o 1 + 1 * ((i 1).val - 1024 * j)
      omega

/-- The loop has sixteen trips. -/
theorem trips_eq : k0_t1_loop.trips = 16 := by decide

/-- The rows trip `t` works on start at `16 * t`. -/
theorem row_eq (t : Fin k0_t1_loop.trips) : (k0_off1 t 0, k0_off1 t 1) = (16 * t.val, 0) := by
  revert t; decide
theorem row_eq2 (t : Fin k0_t1_loop.trips) : (k0_off2 t 0, k0_off2 t 1) = (16 * t.val, 1024) := by
  revert t; decide
theorem row_eq3 (t : Fin k0_t1_loop.trips) : (k0_off3 t 0, k0_off3 t 1) = (16 * t.val, 2048) := by
  revert t; decide
theorem row_eq4 (t : Fin k0_t1_loop.trips) : (k0_off4 t 0, k0_off4 t 1) = (16 * t.val, 3072) := by
  revert t; decide
theorem row_eq5 (t : Fin k0_t1_loop.trips) : (k0_off5 t 0, k0_off5 t 1) = (16 * t.val, 4096) := by
  revert t; decide
theorem row_eq6 (t : Fin k0_t1_loop.trips) : (k0_off6 t 0, k0_off6 t 1) = (16 * t.val, 5120) := by
  revert t; decide
theorem row_eq7 (t : Fin k0_t1_loop.trips) : (k0_off7 t 0, k0_off7 t 1) = (16 * t.val, 6144) := by
  revert t; decide
theorem row_eq8 (t : Fin k0_t1_loop.trips) : (k0_off8 t 0, k0_off8 t 1) = (16 * t.val, 7168) := by
  revert t; decide

variable {c : Dev nD} {I : Ins F} {S : S256x8192.Idx → Prop} (i : grid0.Coords)
variable {a1 : Memref sig .tc .vmem S256x8192 .bf16} (h1 : a1.IsWhole)
variable {a2 : Memref sig .tc .vmem S256x8192 .bf16} (h2 : a2.IsWhole)
variable {a3 : Memref sig .tc .vmem S1x8192 .f32} (h3 : a3.IsWhole)
variable {a4 : Memref sig .tc .vmem S1x1x256 .i32} (h4 : a4.IsWhole)
variable {a5 : Memref sig .tc .vmem S1x128 .f32} (h5 : a5.IsWhole)
variable {a6 : Memref sig .tc .vmem S256x8192 .bf16} (h6 : a6.IsWhole)
variable {a7 : Memref sig .tc .vmem S256x8192 .bf16} (h7 : a7.IsWhole)
variable {a8 : Memref sig .tc .vmem S256x128 .f32} (h8 : a8.IsWhole)
variable {a9 : Memref sig .tc .vmem S256x128 .f32} (h9 : a9.IsWhole)
variable {a10 : Memref sig .tc .vmem S256x8192 .bf16} (h10 : a10.IsWhole)
variable {a11 : Memref sig .tc .vmem S8448x128 .i32} (h11 : a11.IsWhole)

/-- Stretch 1 of a trip makes stores 1 to 2 of the sums. -/
theorem part1 (c0_i32 : BitVec 32) (c1_i32 : BitVec 32) (k0_t1 : Fin k0_t1_loop.trips) :
    St c a1 a2 a3 a4 a5 a6 a7 a8 a9 a10 a11 I (sums I.x I.r) (known k0_t1.val 0) ⊢ wp frame (wpE (defs₀ (F := F)) Variants.none c none) Set.univ (k0_part1 i a1 h1 a2 h2 a3 h3 a4 h4 a5 h5 a6 h6 a7 h7 a8 h8 a9 h9 a10 h10 a11 h11 c0_i32 c1_i32 k0_t1)
      (fun _ => St c a1 a2 a3 a4 a5 a6 a7 a8 a9 a10 a11 I (sums I.x I.r) (known k0_t1.val 2)) := by
  rw [k0_part1_eq_skeleton]; unfold k0_part1_skel
  refine St.load1 ?_
  refine St.load2 ?_
  refine St.load6 fun _ => ?_
  refine St.store6 (S' := known k0_t1.val 1) (fun x => rfl) (known_store (congrArg Prod.fst (row_eq k0_t1)) (congrArg Prod.snd (row_eq k0_t1))) ?_
  refine St.load1 ?_
  refine St.load2 ?_
  refine St.load6 fun _ => ?_
  refine St.store6 (S' := known k0_t1.val 2) (fun x => rfl) (known_store (congrArg Prod.fst (row_eq2 k0_t1)) (congrArg Prod.snd (row_eq2 k0_t1))) ?_
  exact St.done

/-- Stretch 2 of a trip makes stores 3 to 4 of the sums. -/
theorem part2 (k0_t1 : Fin k0_t1_loop.trips) (v1515 : BitVec 32) (v1556 : FVec F S16x1024 .f32) (v1562 : FVec F S16x128 .f32) :
    St c a1 a2 a3 a4 a5 a6 a7 a8 a9 a10 a11 I (sums I.x I.r) (known k0_t1.val 2) ⊢ wp frame (wpE (defs₀ (F := F)) Variants.none c none) Set.univ (k0_part2 i a1 h1 a2 h2 a3 h3 a4 h4 a5 h5 a6 h6 a7 h7 a8 h8 a9 h9 a10 h10 a11 h11 k0_t1 v1515 v1556 v1562)
      (fun _ => St c a1 a2 a3 a4 a5 a6 a7 a8 a9 a10 a11 I (sums I.x I.r) (known k0_t1.val 4)) := by
  rw [k0_part2_eq_skeleton]; unfold k0_part2_skel
  refine St.load1 ?_
  refine St.load2 ?_
  refine St.load6 fun _ => ?_
  refine St.store6 (S' := known k0_t1.val 3) (fun x => rfl) (known_store (congrArg Prod.fst (row_eq3 k0_t1)) (congrArg Prod.snd (row_eq3 k0_t1))) ?_
  refine St.load1 ?_
  refine St.load2 ?_
  refine St.load6 fun _ => ?_
  refine St.store6 (S' := known k0_t1.val 4) (fun x => rfl) (known_store (congrArg Prod.fst (row_eq4 k0_t1)) (congrArg Prod.snd (row_eq4 k0_t1))) ?_
  exact St.done

/-- Stretch 3 of a trip makes stores 5 to 6 of the sums. -/
theorem part3 (k0_t1 : Fin k0_t1_loop.trips) (v1515 : BitVec 32) (v1612 : FVec F S16x1024 .f32) (v1614 : FVec F S16x128 .f32) :
    St c a1 a2 a3 a4 a5 a6 a7 a8 a9 a10 a11 I (sums I.x I.r) (known k0_t1.val 4) ⊢ wp frame (wpE (defs₀ (F := F)) Variants.none c none) Set.univ (k0_part3 i a1 h1 a2 h2 a3 h3 a4 h4 a5 h5 a6 h6 a7 h7 a8 h8 a9 h9 a10 h10 a11 h11 k0_t1 v1515 v1612 v1614)
      (fun _ => St c a1 a2 a3 a4 a5 a6 a7 a8 a9 a10 a11 I (sums I.x I.r) (known k0_t1.val 6)) := by
  rw [k0_part3_eq_skeleton]; unfold k0_part3_skel
  refine St.load1 ?_
  refine St.load2 ?_
  refine St.load6 fun _ => ?_
  refine St.store6 (S' := known k0_t1.val 5) (fun x => rfl) (known_store (congrArg Prod.fst (row_eq5 k0_t1)) (congrArg Prod.snd (row_eq5 k0_t1))) ?_
  refine St.load1 ?_
  refine St.load2 ?_
  refine St.load6 fun _ => ?_
  refine St.store6 (S' := known k0_t1.val 6) (fun x => rfl) (known_store (congrArg Prod.fst (row_eq6 k0_t1)) (congrArg Prod.snd (row_eq6 k0_t1))) ?_
  exact St.done

/-- Stretch 4 of a trip makes stores 7 to 7 of the sums. The last sums of the trip are returned for the next stretch to store. -/
theorem part4 (k0_t1 : Fin k0_t1_loop.trips) (v1515 : BitVec 32) (v1656 : FVec F S16x128 .f32) (v1664 : FVec F S16x1024 .bf16) :
    St c a1 a2 a3 a4 a5 a6 a7 a8 a9 a10 a11 I (sums I.x I.r) (known k0_t1.val 6) ⊢ wp frame (wpE (defs₀ (F := F)) Variants.none c none) Set.univ (k0_part4 i a1 h1 a2 h2 a3 h3 a4 h4 a5 h5 a6 h6 a7 h7 a8 h8 a9 h9 a10 h10 a11 h11 k0_t1 v1515 v1656 v1664)
      (fun v => iprop(⌜∀ x, v.2 x = sums I.x I.r ((Rect.unit (s := S256x8192) (k0_off8 k0_t1) S16x1024.size (k0_off8_inb k0_t1)).emb x)⌝
        ∗ St c a1 a2 a3 a4 a5 a6 a7 a8 a9 a10 a11 I (sums I.x I.r) (known k0_t1.val 7))) := by
  rw [k0_part4_eq_skeleton]; unfold k0_part4_skel
  refine St.load1 ?_
  refine St.load2 ?_
  refine St.load6 fun _ => ?_
  refine St.store6 (S' := known k0_t1.val 7) (fun x => rfl) (known_store (congrArg Prod.fst (row_eq7 k0_t1)) (congrArg Prod.snd (row_eq7 k0_t1))) ?_
  refine St.load1 ?_
  refine St.load2 ?_
  rw [Prog.pure_eq_ret, wp_ret]
  iintro HS
  imodintro
  isplitr
  · ipureintro; exact fun x => rfl
  iexact HS

/-- Stretch 5 of a trip makes stores 8 to 8 of the sums. -/
theorem part5 (k0_t1 : Fin k0_t1_loop.trips) (v1515 : BitVec 32) (v1712 : FVec F S16x128 .f32) (v1720 : FVec F S16x1024 .bf16) (hv : ∀ x, v1720 x = sums I.x I.r ((Rect.unit (s := S256x8192) (k0_off8 k0_t1) S16x1024.size (k0_off8_inb k0_t1)).emb x)) :
    St c a1 a2 a3 a4 a5 a6 a7 a8 a9 a10 a11 I (sums I.x I.r) (known k0_t1.val 7) ⊢ wp frame (wpE (defs₀ (F := F)) Variants.none c none) Set.univ (k0_part5 i a1 h1 a2 h2 a3 h3 a4 h4 a5 h5 a6 h6 a7 h7 a8 h8 a9 h9 a10 h10 a11 h11 k0_t1 v1515 v1712 v1720)
      (fun _ => St c a1 a2 a3 a4 a5 a6 a7 a8 a9 a10 a11 I (sums I.x I.r) (known k0_t1.val 8)) := by
  rw [k0_part5_eq_skeleton]; unfold k0_part5_skel
  refine St.load6 fun _ => ?_
  refine St.store6 (S' := known k0_t1.val 8) hv (known_store (congrArg Prod.fst (row_eq8 k0_t1)) (congrArg Prod.snd (row_eq8 k0_t1))) ?_
  refine St.load6 fun _ => ?_
  refine St.load3 ?_
  refine St.load10 fun _ => ?_
  refine St.store10 ?_
  refine St.load6 fun _ => ?_
  exact St.done

/-- Stretch 6 of a trip keeps the state. -/
theorem part6 (k0_t1 : Fin k0_t1_loop.trips) (v1515 : BitVec 32) (v1747 : FVec F S16x1 .f32) (v1767 : FVec F S16x1024 .f32) :
    St c a1 a2 a3 a4 a5 a6 a7 a8 a9 a10 a11 I (sums I.x I.r) (known k0_t1.val 8) ⊢ wp frame (wpE (defs₀ (F := F)) Variants.none c none) Set.univ (k0_part6 i a1 h1 a2 h2 a3 h3 a4 h4 a5 h5 a6 h6 a7 h7 a8 h8 a9 h9 a10 h10 a11 h11 k0_t1 v1515 v1747 v1767)
      (fun _ => St c a1 a2 a3 a4 a5 a6 a7 a8 a9 a10 a11 I (sums I.x I.r) (known k0_t1.val 8)) := by
  rw [k0_part6_eq_skeleton]; unfold k0_part6_skel
  refine St.load3 ?_
  refine St.load10 fun _ => ?_
  refine St.store10 ?_
  refine St.load6 fun _ => ?_
  refine St.load3 ?_
  refine St.load10 fun _ => ?_
  refine St.store10 ?_
  refine St.load6 fun _ => ?_
  refine St.load3 ?_
  refine St.load10 fun _ => ?_
  refine St.store10 ?_
  refine St.load6 fun _ => ?_
  refine St.load3 ?_
  exact St.done

/-- Stretch 7 of a trip keeps the state. -/
theorem part7 (k0_t1 : Fin k0_t1_loop.trips) (v1515 : BitVec 32) (v1747 : FVec F S16x1 .f32) (v1812 : FVec F S16x1024 .f32) :
    St c a1 a2 a3 a4 a5 a6 a7 a8 a9 a10 a11 I (sums I.x I.r) (known k0_t1.val 8) ⊢ wp frame (wpE (defs₀ (F := F)) Variants.none c none) Set.univ (k0_part7 i a1 h1 a2 h2 a3 h3 a4 h4 a5 h5 a6 h6 a7 h7 a8 h8 a9 h9 a10 h10 a11 h11 k0_t1 v1515 v1747 v1812)
      (fun _ => St c a1 a2 a3 a4 a5 a6 a7 a8 a9 a10 a11 I (sums I.x I.r) (known k0_t1.val 8)) := by
  rw [k0_part7_eq_skeleton]; unfold k0_part7_skel
  refine St.load10 fun _ => ?_
  refine St.store10 ?_
  refine St.load6 fun _ => ?_
  refine St.load3 ?_
  refine St.load10 fun _ => ?_
  refine St.store10 ?_
  refine St.load6 fun _ => ?_
  refine St.load3 ?_
  refine St.load10 fun _ => ?_
  refine St.store10 ?_
  refine St.load6 fun _ => ?_
  refine St.load3 ?_
  exact St.done

/-- A fact that comes with the state. -/
theorem given {φ : Prop} {P Q : sProp 𝕄} (h : φ → P ⊢ Q) : iprop(⌜φ⌝ ∗ P) ⊢ Q := by
  iintro ⟨%hφ, HP⟩
  iapply (h hφ)
  iexact HP

/-- A trip of the loop makes its sixteen rows of `h` known. -/
theorem trip (t : Fin k0_t1_loop.trips) (u : Unit) :
    St c a1 a2 a3 a4 a5 a6 a7 a8 a9 a10 a11 I (sums I.x I.r) (known t.val 0) ⊢ wp frame (wpE (defs₀ (F := F)) Variants.none c none) Set.univ (k0_t1_body i a1 h1 a2 h2 a3 h3 a4 h4 a5 h5 a6 h6 a7 h7 a8 h8 a9 h9 a10 h10 a11 h11 t u) (fun _ => St c a1 a2 a3 a4 a5 a6 a7 a8 a9 a10 a11 I (sums I.x I.r) (known (t.val + 1) 0)) := by
  unfold k0_t1_body
  rw [wp_bind]
  refine BI.Entails.trans (part1 i h1 h2 h3 h4 h5 h6 h7 h8 h9 h10 h11 _ _ t) (wp_mono _ _ _ fun v => ?_)
  obtain ⟨v1515, v1556, v1562⟩ := v
  dsimp only
  rw [wp_bind]
  refine BI.Entails.trans (part2 i h1 h2 h3 h4 h5 h6 h7 h8 h9 h10 h11 t _ _ _) (wp_mono _ _ _ fun v => ?_)
  obtain ⟨v1612, v1614⟩ := v
  dsimp only
  rw [wp_bind]
  refine BI.Entails.trans (part3 i h1 h2 h3 h4 h5 h6 h7 h8 h9 h10 h11 t _ _ _) (wp_mono _ _ _ fun v => ?_)
  obtain ⟨v1656, v1664⟩ := v
  dsimp only
  rw [wp_bind]
  refine BI.Entails.trans (part4 i h1 h2 h3 h4 h5 h6 h7 h8 h9 h10 h11 t _ _ _) (wp_mono _ _ _ fun v => ?_)
  obtain ⟨v1712, v1720⟩ := v
  dsimp only
  refine given fun hv => ?_
  rw [wp_bind]
  refine BI.Entails.trans (part5 i h1 h2 h3 h4 h5 h6 h7 h8 h9 h10 h11 t _ _ _ hv) (wp_mono _ _ _ fun v => ?_)
  obtain ⟨v1747, v1767⟩ := v
  refine St.next (part6 i h1 h2 h3 h4 h5 h6 h7 h8 h9 h10 h11 t _ _ _) fun v => ?_
  refine St.next (part7 i h1 h2 h3 h4 h5 h6 h7 h8 h9 h10 h11 t _ _ _) fun v => ?_
  refine St.load10 fun _ => ?_
  refine St.store10 ?_
  refine BI.Entails.trans St.done (wp_mono _ _ _ fun _ => ?_)
  exact St.mono (known_row t.val)

end Cert.Norm

end
-- ==== Proof.Norm.TailA.lean ====
/- The stretches 9 to 24 of the norm call's body: each keeps the state. They rearrange the normalized rows into `xp` and
   compute the cosines and the sines, and leave `h` alone. -/
module

public import proofs.«01_k».proof.Proof.Norm.Moves
public import proofs.«01_k».proof.Proof.Gen.KernelH.Skeleton

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {I : Ins F} {H : S256x8192.Idx → Elt F .bf16} {S : S256x8192.Idx → Prop} (i : grid0.Coords)
variable {a1 : Memref sig .tc .vmem S256x8192 .bf16} (h1 : a1.IsWhole)
variable {a2 : Memref sig .tc .vmem S256x8192 .bf16} (h2 : a2.IsWhole)
variable {a3 : Memref sig .tc .vmem S1x8192 .f32} (h3 : a3.IsWhole)
variable {a4 : Memref sig .tc .vmem S1x1x256 .i32} (h4 : a4.IsWhole)
variable {a5 : Memref sig .tc .vmem S1x128 .f32} (h5 : a5.IsWhole)
variable {a6 : Memref sig .tc .vmem S256x8192 .bf16} (h6 : a6.IsWhole)
variable {a7 : Memref sig .tc .vmem S256x8192 .bf16} (h7 : a7.IsWhole)
variable {a8 : Memref sig .tc .vmem S256x128 .f32} (h8 : a8.IsWhole)
variable {a9 : Memref sig .tc .vmem S256x128 .f32} (h9 : a9.IsWhole)
variable {a10 : Memref sig .tc .vmem S256x8192 .bf16} (h10 : a10.IsWhole)
variable {a11 : Memref sig .tc .vmem S8448x128 .i32} (h11 : a11.IsWhole)

/-- Stretch 9 keeps the state. -/
theorem part9 (v22 : IVec S128x128 32) (v31 : IVec S32x128 32) :
    St c a1 a2 a3 a4 a5 a6 a7 a8 a9 a10 a11 I H S ⊢ wp frame (wpE (defs₀ (F := F)) Variants.none c none) Set.univ (k0_part9 i a1 h1 a2 h2 a3 h3 a4 h4 a5 h5 a6 h6 a7 h7 a8 h8 a9 h9 a10 h10 a11 h11 v22 v31) (fun _ => St c a1 a2 a3 a4 a5 a6 a7 a8 a9 a10 a11 I H S) := by
  rw [k0_part9_eq_skeleton]; unfold k0_part9_skel
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  exact St.done

/-- Stretch 10 keeps the state. -/
theorem part10 (v60 : IVec S128x128 32) (v65 : IVec S32x128 32) :
    St c a1 a2 a3 a4 a5 a6 a7 a8 a9 a10 a11 I H S ⊢ wp frame (wpE (defs₀ (F := F)) Variants.none c none) Set.univ (k0_part10 i a1 h1 a2 h2 a3 h3 a4 h4 a5 h5 a6 h6 a7 h7 a8 h8 a9 h9 a10 h10 a11 h11 v60 v65) (fun _ => St c a1 a2 a3 a4 a5 a6 a7 a8 a9 a10 a11 I H S) := by
  rw [k0_part10_eq_skeleton]; unfold k0_part10_skel
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 11 keeps the state. -/
theorem part11 (v98 : IVec S128x128 32) (v99 : IVec S32x128 32) :
    St c a1 a2 a3 a4 a5 a6 a7 a8 a9 a10 a11 I H S ⊢ wp frame (wpE (defs₀ (F := F)) Variants.none c none) Set.univ (k0_part11 i a1 h1 a2 h2 a3 h3 a4 h4 a5 h5 a6 h6 a7 h7 a8 h8 a9 h9 a10 h10 a11 h11 v98 v99) (fun _ => St c a1 a2 a3 a4 a5 a6 a7 a8 a9 a10 a11 I H S) := by
  rw [k0_part11_eq_skeleton]; unfold k0_part11_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  exact St.done

/-- Stretch 12 keeps the state. -/
theorem part12  :
    St c a1 a2 a3 a4 a5 a6 a7 a8 a9 a10 a11 I H S ⊢ wp frame (wpE (defs₀ (F := F)) Variants.none c none) Set.univ (k0_part12 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part12_eq_skeleton]; unfold k0_part12_skel
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 13 keeps the state. -/
theorem part13 (v168 : IVec S32x128 32) :
    St c a1 a2 a3 a4 a5 a6 a7 a8 a9 a10 a11 I H S ⊢ wp frame (wpE (defs₀ (F := F)) Variants.none c none) Set.univ (k0_part13 i a1 h1 a2 h2 a3 h3 a4 h4 a5 h5 a6 h6 a7 h7 a8 h8 a9 h9 a10 h10 a11 h11 v168) (fun _ => St c a1 a2 a3 a4 a5 a6 a7 a8 a9 a10 a11 I H S) := by
  rw [k0_part13_eq_skeleton]; unfold k0_part13_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  exact St.done

/-- Stretch 14 keeps the state. -/
theorem part14 (v193 : IVec S128x128 32) (v202 : IVec S32x128 32) (v203 : Vec F S32x128 .i32) :
    St c a1 a2 a3 a4 a5 a6 a7 a8 a9 a10 a11 I H S ⊢ wp frame (wpE (defs₀ (F := F)) Variants.none c none) Set.univ (k0_part14 i a1 h1 a2 h2 a3 h3 a4 h4 a5 h5 a6 h6 a7 h7 a8 h8 a9 h9 a10 h10 a11 h11 v193 v202 v203) (fun _ => St c a1 a2 a3 a4 a5 a6 a7 a8 a9 a10 a11 I H S) := by
  rw [k0_part14_eq_skeleton]; unfold k0_part14_skel
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  exact St.done

/-- Stretch 15 keeps the state. -/
theorem part15 (v231 : IVec S128x128 32) (v236 : IVec S32x128 32) :
    St c a1 a2 a3 a4 a5 a6 a7 a8 a9 a10 a11 I H S ⊢ wp frame (wpE (defs₀ (F := F)) Variants.none c none) Set.univ (k0_part15 i a1 h1 a2 h2 a3 h3 a4 h4 a5 h5 a6 h6 a7 h7 a8 h8 a9 h9 a10 h10 a11 h11 v231 v236) (fun _ => St c a1 a2 a3 a4 a5 a6 a7 a8 a9 a10 a11 I H S) := by
  rw [k0_part15_eq_skeleton]; unfold k0_part15_skel
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  exact St.done

/-- Stretch 16 keeps the state. -/
theorem part16 (v269 : IVec S128x128 32) (v273 : IVec S32x128 32) :
    St c a1 a2 a3 a4 a5 a6 a7 a8 a9 a10 a11 I H S ⊢ wp frame (wpE (defs₀ (F := F)) Variants.none c none) Set.univ (k0_part16 i a1 h1 a2 h2 a3 h3 a4 h4 a5 h5 a6 h6 a7 h7 a8 h8 a9 h9 a10 h10 a11 h11 v269 v273) (fun _ => St c a1 a2 a3 a4 a5 a6 a7 a8 a9 a10 a11 I H S) := by
  rw [k0_part16_eq_skeleton]; unfold k0_part16_skel
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 17 keeps the state. -/
theorem part17 (v307 : IVec S128x128 32) :
    St c a1 a2 a3 a4 a5 a6 a7 a8 a9 a10 a11 I H S ⊢ wp frame (wpE (defs₀ (F := F)) Variants.none c none) Set.univ (k0_part17 i a1 h1 a2 h2 a3 h3 a4 h4 a5 h5 a6 h6 a7 h7 a8 h8 a9 h9 a10 h10 a11 h11 v307) (fun _ => St c a1 a2 a3 a4 a5 a6 a7 a8 a9 a10 a11 I H S) := by
  rw [k0_part17_eq_skeleton]; unfold k0_part17_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  exact St.done

/-- Stretch 18 keeps the state. -/
theorem part18 (v342 : IVec S32x128 32) :
    St c a1 a2 a3 a4 a5 a6 a7 a8 a9 a10 a11 I H S ⊢ wp frame (wpE (defs₀ (F := F)) Variants.none c none) Set.univ (k0_part18 i a1 h1 a2 h2 a3 h3 a4 h4 a5 h5 a6 h6 a7 h7 a8 h8 a9 h9 a10 h10 a11 h11 v342) (fun _ => St c a1 a2 a3 a4 a5 a6 a7 a8 a9 a10 a11 I H S) := by
  rw [k0_part18_eq_skeleton]; unfold k0_part18_skel
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 19 keeps the state. -/
theorem part19 (v364 : IVec S128x128 32) :
    St c a1 a2 a3 a4 a5 a6 a7 a8 a9 a10 a11 I H S ⊢ wp frame (wpE (defs₀ (F := F)) Variants.none c none) Set.univ (k0_part19 i a1 h1 a2 h2 a3 h3 a4 h4 a5 h5 a6 h6 a7 h7 a8 h8 a9 h9 a10 h10 a11 h11 v364) (fun _ => St c a1 a2 a3 a4 a5 a6 a7 a8 a9 a10 a11 I H S) := by
  rw [k0_part19_eq_skeleton]; unfold k0_part19_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  exact St.done

/-- Stretch 20 keeps the state. -/
theorem part20 (v402 : IVec S128x128 32) (v411 : IVec S32x128 32) :
    St c a1 a2 a3 a4 a5 a6 a7 a8 a9 a10 a11 I H S ⊢ wp frame (wpE (defs₀ (F := F)) Variants.none c none) Set.univ (k0_part20 i a1 h1 a2 h2 a3 h3 a4 h4 a5 h5 a6 h6 a7 h7 a8 h8 a9 h9 a10 h10 a11 h11 v402 v411) (fun _ => St c a1 a2 a3 a4 a5 a6 a7 a8 a9 a10 a11 I H S) := by
  rw [k0_part20_eq_skeleton]; unfold k0_part20_skel
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  exact St.done

/-- Stretch 21 keeps the state. -/
theorem part21 (v440 : IVec S128x128 32) (v445 : IVec S32x128 32) :
    St c a1 a2 a3 a4 a5 a6 a7 a8 a9 a10 a11 I H S ⊢ wp frame (wpE (defs₀ (F := F)) Variants.none c none) Set.univ (k0_part21 i a1 h1 a2 h2 a3 h3 a4 h4 a5 h5 a6 h6 a7 h7 a8 h8 a9 h9 a10 h10 a11 h11 v440 v445) (fun _ => St c a1 a2 a3 a4 a5 a6 a7 a8 a9 a10 a11 I H S) := by
  rw [k0_part21_eq_skeleton]; unfold k0_part21_skel
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 22 keeps the state. -/
theorem part22 (v478 : IVec S128x128 32) (v479 : IVec S32x128 32) :
    St c a1 a2 a3 a4 a5 a6 a7 a8 a9 a10 a11 I H S ⊢ wp frame (wpE (defs₀ (F := F)) Variants.none c none) Set.univ (k0_part22 i a1 h1 a2 h2 a3 h3 a4 h4 a5 h5 a6 h6 a7 h7 a8 h8 a9 h9 a10 h10 a11 h11 v478 v479) (fun _ => St c a1 a2 a3 a4 a5 a6 a7 a8 a9 a10 a11 I H S) := by
  rw [k0_part22_eq_skeleton]; unfold k0_part22_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  exact St.done

/-- Stretch 23 keeps the state. -/
theorem part23  :
    St c a1 a2 a3 a4 a5 a6 a7 a8 a9 a10 a11 I H S ⊢ wp frame (wpE (defs₀ (F := F)) Variants.none c none) Set.univ (k0_part23 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part23_eq_skeleton]; unfold k0_part23_skel
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 24 keeps the state. -/
theorem part24 (v548 : IVec S32x128 32) :
    St c a1 a2 a3 a4 a5 a6 a7 a8 a9 a10 a11 I H S ⊢ wp frame (wpE (defs₀ (F := F)) Variants.none c none) Set.univ (k0_part24 i a1 h1 a2 h2 a3 h3 a4 h4 a5 h5 a6 h6 a7 h7 a8 h8 a9 h9 a10 h10 a11 h11 v548) (fun _ => St c a1 a2 a3 a4 a5 a6 a7 a8 a9 a10 a11 I H S) := by
  rw [k0_part24_eq_skeleton]; unfold k0_part24_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  exact St.done

end Cert.Norm

end
-- ==== Proof.Norm.TailB.lean ====
/- The stretches 25 to 39 of the norm call's body: each keeps the state. They rearrange the normalized rows into `xp` and
   compute the cosines and the sines, and leave `h` alone. -/
module

public import proofs.«01_k».proof.Proof.Norm.Moves
public import proofs.«01_k».proof.Proof.Gen.KernelH.Skeleton

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {I : Ins F} {H : S256x8192.Idx → Elt F .bf16} {S : S256x8192.Idx → Prop} (i : grid0.Coords)
variable {a1 : Memref sig .tc .vmem S256x8192 .bf16} (h1 : a1.IsWhole)
variable {a2 : Memref sig .tc .vmem S256x8192 .bf16} (h2 : a2.IsWhole)
variable {a3 : Memref sig .tc .vmem S1x8192 .f32} (h3 : a3.IsWhole)
variable {a4 : Memref sig .tc .vmem S1x1x256 .i32} (h4 : a4.IsWhole)
variable {a5 : Memref sig .tc .vmem S1x128 .f32} (h5 : a5.IsWhole)
variable {a6 : Memref sig .tc .vmem S256x8192 .bf16} (h6 : a6.IsWhole)
variable {a7 : Memref sig .tc .vmem S256x8192 .bf16} (h7 : a7.IsWhole)
variable {a8 : Memref sig .tc .vmem S256x128 .f32} (h8 : a8.IsWhole)
variable {a9 : Memref sig .tc .vmem S256x128 .f32} (h9 : a9.IsWhole)
variable {a10 : Memref sig .tc .vmem S256x8192 .bf16} (h10 : a10.IsWhole)
variable {a11 : Memref sig .tc .vmem S8448x128 .i32} (h11 : a11.IsWhole)

/-- Stretch 25 keeps the state. -/
theorem part25 (v573 : IVec S128x128 32) (v582 : IVec S32x128 32) (v583 : Vec F S32x128 .i32) :
    St c a1 a2 a3 a4 a5 a6 a7 a8 a9 a10 a11 I H S ⊢ wp frame (wpE (defs₀ (F := F)) Variants.none c none) Set.univ (k0_part25 i a1 h1 a2 h2 a3 h3 a4 h4 a5 h5 a6 h6 a7 h7 a8 h8 a9 h9 a10 h10 a11 h11 v573 v582 v583) (fun _ => St c a1 a2 a3 a4 a5 a6 a7 a8 a9 a10 a11 I H S) := by
  rw [k0_part25_eq_skeleton]; unfold k0_part25_skel
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  exact St.done

/-- Stretch 26 keeps the state. -/
theorem part26 (v611 : IVec S128x128 32) (v616 : IVec S32x128 32) :
    St c a1 a2 a3 a4 a5 a6 a7 a8 a9 a10 a11 I H S ⊢ wp frame (wpE (defs₀ (F := F)) Variants.none c none) Set.univ (k0_part26 i a1 h1 a2 h2 a3 h3 a4 h4 a5 h5 a6 h6 a7 h7 a8 h8 a9 h9 a10 h10 a11 h11 v611 v616) (fun _ => St c a1 a2 a3 a4 a5 a6 a7 a8 a9 a10 a11 I H S) := by
  rw [k0_part26_eq_skeleton]; unfold k0_part26_skel
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  exact St.done

/-- Stretch 27 keeps the state. -/
theorem part27 (v649 : IVec S128x128 32) (v653 : IVec S32x128 32) :
    St c a1 a2 a3 a4 a5 a6 a7 a8 a9 a10 a11 I H S ⊢ wp frame (wpE (defs₀ (F := F)) Variants.none c none) Set.univ (k0_part27 i a1 h1 a2 h2 a3 h3 a4 h4 a5 h5 a6 h6 a7 h7 a8 h8 a9 h9 a10 h10 a11 h11 v649 v653) (fun _ => St c a1 a2 a3 a4 a5 a6 a7 a8 a9 a10 a11 I H S) := by
  rw [k0_part27_eq_skeleton]; unfold k0_part27_skel
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 28 keeps the state. -/
theorem part28 (v687 : IVec S128x128 32) :
    St c a1 a2 a3 a4 a5 a6 a7 a8 a9 a10 a11 I H S ⊢ wp frame (wpE (defs₀ (F := F)) Variants.none c none) Set.univ (k0_part28 i a1 h1 a2 h2 a3 h3 a4 h4 a5 h5 a6 h6 a7 h7 a8 h8 a9 h9 a10 h10 a11 h11 v687) (fun _ => St c a1 a2 a3 a4 a5 a6 a7 a8 a9 a10 a11 I H S) := by
  rw [k0_part28_eq_skeleton]; unfold k0_part28_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  exact St.done

/-- Stretch 29 keeps the state. -/
theorem part29 (v722 : IVec S32x128 32) :
    St c a1 a2 a3 a4 a5 a6 a7 a8 a9 a10 a11 I H S ⊢ wp frame (wpE (defs₀ (F := F)) Variants.none c none) Set.univ (k0_part29 i a1 h1 a2 h2 a3 h3 a4 h4 a5 h5 a6 h6 a7 h7 a8 h8 a9 h9 a10 h10 a11 h11 v722) (fun _ => St c a1 a2 a3 a4 a5 a6 a7 a8 a9 a10 a11 I H S) := by
  rw [k0_part29_eq_skeleton]; unfold k0_part29_skel
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 30 keeps the state. -/
theorem part30 (v744 : IVec S128x128 32) :
    St c a1 a2 a3 a4 a5 a6 a7 a8 a9 a10 a11 I H S ⊢ wp frame (wpE (defs₀ (F := F)) Variants.none c none) Set.univ (k0_part30 i a1 h1 a2 h2 a3 h3 a4 h4 a5 h5 a6 h6 a7 h7 a8 h8 a9 h9 a10 h10 a11 h11 v744) (fun _ => St c a1 a2 a3 a4 a5 a6 a7 a8 a9 a10 a11 I H S) := by
  rw [k0_part30_eq_skeleton]; unfold k0_part30_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  exact St.done

/-- Stretch 31 keeps the state. -/
theorem part31 (v782 : IVec S128x128 32) (v791 : IVec S32x128 32) :
    St c a1 a2 a3 a4 a5 a6 a7 a8 a9 a10 a11 I H S ⊢ wp frame (wpE (defs₀ (F := F)) Variants.none c none) Set.univ (k0_part31 i a1 h1 a2 h2 a3 h3 a4 h4 a5 h5 a6 h6 a7 h7 a8 h8 a9 h9 a10 h10 a11 h11 v782 v791) (fun _ => St c a1 a2 a3 a4 a5 a6 a7 a8 a9 a10 a11 I H S) := by
  rw [k0_part31_eq_skeleton]; unfold k0_part31_skel
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  exact St.done

/-- Stretch 32 keeps the state. -/
theorem part32 (v820 : IVec S128x128 32) (v825 : IVec S32x128 32) :
    St c a1 a2 a3 a4 a5 a6 a7 a8 a9 a10 a11 I H S ⊢ wp frame (wpE (defs₀ (F := F)) Variants.none c none) Set.univ (k0_part32 i a1 h1 a2 h2 a3 h3 a4 h4 a5 h5 a6 h6 a7 h7 a8 h8 a9 h9 a10 h10 a11 h11 v820 v825) (fun _ => St c a1 a2 a3 a4 a5 a6 a7 a8 a9 a10 a11 I H S) := by
  rw [k0_part32_eq_skeleton]; unfold k0_part32_skel
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 33 keeps the state. -/
theorem part33 (v858 : IVec S128x128 32) (v859 : IVec S32x128 32) :
    St c a1 a2 a3 a4 a5 a6 a7 a8 a9 a10 a11 I H S ⊢ wp frame (wpE (defs₀ (F := F)) Variants.none c none) Set.univ (k0_part33 i a1 h1 a2 h2 a3 h3 a4 h4 a5 h5 a6 h6 a7 h7 a8 h8 a9 h9 a10 h10 a11 h11 v858 v859) (fun _ => St c a1 a2 a3 a4 a5 a6 a7 a8 a9 a10 a11 I H S) := by
  rw [k0_part33_eq_skeleton]; unfold k0_part33_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  exact St.done

/-- Stretch 34 keeps the state. -/
theorem part34  :
    St c a1 a2 a3 a4 a5 a6 a7 a8 a9 a10 a11 I H S ⊢ wp frame (wpE (defs₀ (F := F)) Variants.none c none) Set.univ (k0_part34 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part34_eq_skeleton]; unfold k0_part34_skel
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 35 keeps the state. -/
theorem part35 (v928 : IVec S32x128 32) :
    St c a1 a2 a3 a4 a5 a6 a7 a8 a9 a10 a11 I H S ⊢ wp frame (wpE (defs₀ (F := F)) Variants.none c none) Set.univ (k0_part35 i a1 h1 a2 h2 a3 h3 a4 h4 a5 h5 a6 h6 a7 h7 a8 h8 a9 h9 a10 h10 a11 h11 v928) (fun _ => St c a1 a2 a3 a4 a5 a6 a7 a8 a9 a10 a11 I H S) := by
  rw [k0_part35_eq_skeleton]; unfold k0_part35_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  exact St.done

/-- Stretch 36 keeps the state. -/
theorem part36 (v953 : IVec S128x128 32) (v962 : IVec S32x128 32) (v963 : Vec F S32x128 .i32) :
    St c a1 a2 a3 a4 a5 a6 a7 a8 a9 a10 a11 I H S ⊢ wp frame (wpE (defs₀ (F := F)) Variants.none c none) Set.univ (k0_part36 i a1 h1 a2 h2 a3 h3 a4 h4 a5 h5 a6 h6 a7 h7 a8 h8 a9 h9 a10 h10 a11 h11 v953 v962 v963) (fun _ => St c a1 a2 a3 a4 a5 a6 a7 a8 a9 a10 a11 I H S) := by
  rw [k0_part36_eq_skeleton]; unfold k0_part36_skel
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  exact St.done

/-- Stretch 37 keeps the state. -/
theorem part37 (v991 : IVec S128x128 32) (v996 : IVec S32x128 32) :
    St c a1 a2 a3 a4 a5 a6 a7 a8 a9 a10 a11 I H S ⊢ wp frame (wpE (defs₀ (F := F)) Variants.none c none) Set.univ (k0_part37 i a1 h1 a2 h2 a3 h3 a4 h4 a5 h5 a6 h6 a7 h7 a8 h8 a9 h9 a10 h10 a11 h11 v991 v996) (fun _ => St c a1 a2 a3 a4 a5 a6 a7 a8 a9 a10 a11 I H S) := by
  rw [k0_part37_eq_skeleton]; unfold k0_part37_skel
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  exact St.done

/-- Stretch 38 keeps the state. -/
theorem part38 (v1029 : IVec S128x128 32) (v1033 : IVec S32x128 32) :
    St c a1 a2 a3 a4 a5 a6 a7 a8 a9 a10 a11 I H S ⊢ wp frame (wpE (defs₀ (F := F)) Variants.none c none) Set.univ (k0_part38 i a1 h1 a2 h2 a3 h3 a4 h4 a5 h5 a6 h6 a7 h7 a8 h8 a9 h9 a10 h10 a11 h11 v1029 v1033) (fun _ => St c a1 a2 a3 a4 a5 a6 a7 a8 a9 a10 a11 I H S) := by
  rw [k0_part38_eq_skeleton]; unfold k0_part38_skel
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  exact St.done

/-- Stretch 39 keeps the state. -/
theorem part39 (v1067 : IVec S128x128 32) :
    St c a1 a2 a3 a4 a5 a6 a7 a8 a9 a10 a11 I H S ⊢ wp frame (wpE (defs₀ (F := F)) Variants.none c none) Set.univ (k0_part39 i a1 h1 a2 h2 a3 h3 a4 h4 a5 h5 a6 h6 a7 h7 a8 h8 a9 h9 a10 h10 a11 h11 v1067) (fun _ => St c a1 a2 a3 a4 a5 a6 a7 a8 a9 a10 a11 I H S) := by
  rw [k0_part39_eq_skeleton]; unfold k0_part39_skel
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  exact St.done

end Cert.Norm

end
-- ==== Proof.Norm.TailC.lean ====
/- The stretches 40 to 53 of the norm call's body: each keeps the state. They rearrange the normalized rows into `xp` and
   compute the cosines and the sines, and leave `h` alone. -/
module

public import proofs.«01_k».proof.Proof.Norm.Moves
public import proofs.«01_k».proof.Proof.Gen.KernelH.Skeleton

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {I : Ins F} {H : S256x8192.Idx → Elt F .bf16} {S : S256x8192.Idx → Prop} (i : grid0.Coords)
variable {a1 : Memref sig .tc .vmem S256x8192 .bf16} (h1 : a1.IsWhole)
variable {a2 : Memref sig .tc .vmem S256x8192 .bf16} (h2 : a2.IsWhole)
variable {a3 : Memref sig .tc .vmem S1x8192 .f32} (h3 : a3.IsWhole)
variable {a4 : Memref sig .tc .vmem S1x1x256 .i32} (h4 : a4.IsWhole)
variable {a5 : Memref sig .tc .vmem S1x128 .f32} (h5 : a5.IsWhole)
variable {a6 : Memref sig .tc .vmem S256x8192 .bf16} (h6 : a6.IsWhole)
variable {a7 : Memref sig .tc .vmem S256x8192 .bf16} (h7 : a7.IsWhole)
variable {a8 : Memref sig .tc .vmem S256x128 .f32} (h8 : a8.IsWhole)
variable {a9 : Memref sig .tc .vmem S256x128 .f32} (h9 : a9.IsWhole)
variable {a10 : Memref sig .tc .vmem S256x8192 .bf16} (h10 : a10.IsWhole)
variable {a11 : Memref sig .tc .vmem S8448x128 .i32} (h11 : a11.IsWhole)

/-- Stretch 40 keeps the state. -/
theorem part40 (v1102 : IVec S32x128 32) :
    St c a1 a2 a3 a4 a5 a6 a7 a8 a9 a10 a11 I H S ⊢ wp frame (wpE (defs₀ (F := F)) Variants.none c none) Set.univ (k0_part40 i a1 h1 a2 h2 a3 h3 a4 h4 a5 h5 a6 h6 a7 h7 a8 h8 a9 h9 a10 h10 a11 h11 v1102) (fun _ => St c a1 a2 a3 a4 a5 a6 a7 a8 a9 a10 a11 I H S) := by
  rw [k0_part40_eq_skeleton]; unfold k0_part40_skel
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  exact St.done

/-- Stretch 41 keeps the state. -/
theorem part41 (v1124 : IVec S128x128 32) :
    St c a1 a2 a3 a4 a5 a6 a7 a8 a9 a10 a11 I H S ⊢ wp frame (wpE (defs₀ (F := F)) Variants.none c none) Set.univ (k0_part41 i a1 h1 a2 h2 a3 h3 a4 h4 a5 h5 a6 h6 a7 h7 a8 h8 a9 h9 a10 h10 a11 h11 v1124) (fun _ => St c a1 a2 a3 a4 a5 a6 a7 a8 a9 a10 a11 I H S) := by
  rw [k0_part41_eq_skeleton]; unfold k0_part41_skel
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  exact St.done

/-- Stretch 42 keeps the state. -/
theorem part42 (v1162 : IVec S128x128 32) (v1171 : IVec S32x128 32) :
    St c a1 a2 a3 a4 a5 a6 a7 a8 a9 a10 a11 I H S ⊢ wp frame (wpE (defs₀ (F := F)) Variants.none c none) Set.univ (k0_part42 i a1 h1 a2 h2 a3 h3 a4 h4 a5 h5 a6 h6 a7 h7 a8 h8 a9 h9 a10 h10 a11 h11 v1162 v1171) (fun _ => St c a1 a2 a3 a4 a5 a6 a7 a8 a9 a10 a11 I H S) := by
  rw [k0_part42_eq_skeleton]; unfold k0_part42_skel
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  exact St.done

/-- Stretch 43 keeps the state. -/
theorem part43 (v1200 : IVec S128x128 32) (v1205 : IVec S32x128 32) :
    St c a1 a2 a3 a4 a5 a6 a7 a8 a9 a10 a11 I H S ⊢ wp frame (wpE (defs₀ (F := F)) Variants.none c none) Set.univ (k0_part43 i a1 h1 a2 h2 a3 h3 a4 h4 a5 h5 a6 h6 a7 h7 a8 h8 a9 h9 a10 h10 a11 h11 v1200 v1205) (fun _ => St c a1 a2 a3 a4 a5 a6 a7 a8 a9 a10 a11 I H S) := by
  rw [k0_part43_eq_skeleton]; unfold k0_part43_skel
  refine St.load11 fun _ => ?_
  refine St.store11 ?_
  refine St.load11 fun _ => ?_
  refine St.store11 ?_
  refine St.load11 fun _ => ?_
  refine St.store11 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  exact St.done

/-- Stretch 44 keeps the state. -/
theorem part44 (v1235 : FVec F S256x128 .bf16) :
    St c a1 a2 a3 a4 a5 a6 a7 a8 a9 a10 a11 I H S ⊢ wp frame (wpE (defs₀ (F := F)) Variants.none c none) Set.univ (k0_part44 i a1 h1 a2 h2 a3 h3 a4 h4 a5 h5 a6 h6 a7 h7 a8 h8 a9 h9 a10 h10 a11 h11 v1235) (fun _ => St c a1 a2 a3 a4 a5 a6 a7 a8 a9 a10 a11 I H S) := by
  rw [k0_part44_eq_skeleton]; unfold k0_part44_skel
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  exact St.done

/-- Stretch 45 keeps the state. -/
theorem part45  :
    St c a1 a2 a3 a4 a5 a6 a7 a8 a9 a10 a11 I H S ⊢ wp frame (wpE (defs₀ (F := F)) Variants.none c none) Set.univ (k0_part45 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part45_eq_skeleton]; unfold k0_part45_skel
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  exact St.done

/-- Stretch 46 keeps the state. -/
theorem part46 (v1287 : FVec F S256x128 .bf16) :
    St c a1 a2 a3 a4 a5 a6 a7 a8 a9 a10 a11 I H S ⊢ wp frame (wpE (defs₀ (F := F)) Variants.none c none) Set.univ (k0_part46 i a1 h1 a2 h2 a3 h3 a4 h4 a5 h5 a6 h6 a7 h7 a8 h8 a9 h9 a10 h10 a11 h11 v1287) (fun _ => St c a1 a2 a3 a4 a5 a6 a7 a8 a9 a10 a11 I H S) := by
  rw [k0_part46_eq_skeleton]; unfold k0_part46_skel
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  exact St.done

/-- Stretch 47 keeps the state. -/
theorem part47 (v1315 : FVec F S256x128 .bf16) :
    St c a1 a2 a3 a4 a5 a6 a7 a8 a9 a10 a11 I H S ⊢ wp frame (wpE (defs₀ (F := F)) Variants.none c none) Set.univ (k0_part47 i a1 h1 a2 h2 a3 h3 a4 h4 a5 h5 a6 h6 a7 h7 a8 h8 a9 h9 a10 h10 a11 h11 v1315) (fun _ => St c a1 a2 a3 a4 a5 a6 a7 a8 a9 a10 a11 I H S) := by
  rw [k0_part47_eq_skeleton]; unfold k0_part47_skel
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  exact St.done

/-- Stretch 48 keeps the state. -/
theorem part48  :
    St c a1 a2 a3 a4 a5 a6 a7 a8 a9 a10 a11 I H S ⊢ wp frame (wpE (defs₀ (F := F)) Variants.none c none) Set.univ (k0_part48 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part48_eq_skeleton]; unfold k0_part48_skel
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  exact St.done

/-- Stretch 49 keeps the state. -/
theorem part49 (v1367 : FVec F S256x128 .bf16) :
    St c a1 a2 a3 a4 a5 a6 a7 a8 a9 a10 a11 I H S ⊢ wp frame (wpE (defs₀ (F := F)) Variants.none c none) Set.univ (k0_part49 i a1 h1 a2 h2 a3 h3 a4 h4 a5 h5 a6 h6 a7 h7 a8 h8 a9 h9 a10 h10 a11 h11 v1367) (fun _ => St c a1 a2 a3 a4 a5 a6 a7 a8 a9 a10 a11 I H S) := by
  rw [k0_part49_eq_skeleton]; unfold k0_part49_skel
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  exact St.done

/-- Stretch 50 keeps the state. -/
theorem part50 (v1395 : FVec F S256x128 .bf16) :
    St c a1 a2 a3 a4 a5 a6 a7 a8 a9 a10 a11 I H S ⊢ wp frame (wpE (defs₀ (F := F)) Variants.none c none) Set.univ (k0_part50 i a1 h1 a2 h2 a3 h3 a4 h4 a5 h5 a6 h6 a7 h7 a8 h8 a9 h9 a10 h10 a11 h11 v1395) (fun _ => St c a1 a2 a3 a4 a5 a6 a7 a8 a9 a10 a11 I H S) := by
  rw [k0_part50_eq_skeleton]; unfold k0_part50_skel
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  exact St.done

/-- Stretch 51 keeps the state. -/
theorem part51  :
    St c a1 a2 a3 a4 a5 a6 a7 a8 a9 a10 a11 I H S ⊢ wp frame (wpE (defs₀ (F := F)) Variants.none c none) Set.univ (k0_part51 i a1 h1 a2 h2 a3 h3 a4 h4 a5 h5 a6 h6 a7 h7 a8 h8 a9 h9 a10 h10 a11 h11 ) (fun _ => St c a1 a2 a3 a4 a5 a6 a7 a8 a9 a10 a11 I H S) := by
  rw [k0_part51_eq_skeleton]; unfold k0_part51_skel
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  exact St.done

/-- Stretch 52 keeps the state. -/
theorem part52 (v1447 : FVec F S256x128 .bf16) :
    St c a1 a2 a3 a4 a5 a6 a7 a8 a9 a10 a11 I H S ⊢ wp frame (wpE (defs₀ (F := F)) Variants.none c none) Set.univ (k0_part52 i a1 h1 a2 h2 a3 h3 a4 h4 a5 h5 a6 h6 a7 h7 a8 h8 a9 h9 a10 h10 a11 h11 v1447) (fun _ => St c a1 a2 a3 a4 a5 a6 a7 a8 a9 a10 a11 I H S) := by
  rw [k0_part52_eq_skeleton]; unfold k0_part52_skel
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load11 fun _ => ?_
  refine St.load7 fun _ => ?_
  refine St.store7 ?_
  refine St.load4 ?_
  exact St.done

/-- Stretch 53 keeps the state. -/
theorem part53 (v1474 : IVec S1x256 32) :
    St c a1 a2 a3 a4 a5 a6 a7 a8 a9 a10 a11 I H S ⊢ wp frame (wpE (defs₀ (F := F)) Variants.none c none) Set.univ (k0_part53 i a1 h1 a2 h2 a3 h3 a4 h4 a5 h5 a6 h6 a7 h7 a8 h8 a9 h9 a10 h10 a11 h11 v1474) (fun _ => St c a1 a2 a3 a4 a5 a6 a7 a8 a9 a10 a11 I H S) := by
  rw [k0_part53_eq_skeleton]; unfold k0_part53_skel
  refine St.load5 ?_
  refine St.load8 fun _ => ?_
  refine St.store8 ?_
  refine St.load9 fun _ => ?_
  refine St.store9 ?_
  refine St.load5 ?_
  refine St.load8 fun _ => ?_
  refine St.store8 ?_
  refine St.load9 fun _ => ?_
  exact St.done

end Cert.Norm

end
-- ==== Proof.Norm.Body.lean ====
/- The whole body of the norm call at a grid point: the loop, then the stretches that rearrange the normalized rows and compute the
   cosines and the sines. `h` ends as the sums. -/
module

public import proofs.«01_k».proof.Proof.Norm.Loop
public import proofs.«01_k».proof.Proof.Norm.TailA
public import proofs.«01_k».proof.Proof.Norm.TailB
public import proofs.«01_k».proof.Proof.Norm.TailC
public import proofs.«01_k».proof.Proof.Gen.KernelH.Skeleton

@[expose] public section

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {I : Ins F} (i : grid0.Coords)
variable {a1 : Memref sig .tc .vmem S256x8192 .bf16} (h1 : a1.IsWhole)
variable {a2 : Memref sig .tc .vmem S256x8192 .bf16} (h2 : a2.IsWhole)
variable {a3 : Memref sig .tc .vmem S1x8192 .f32} (h3 : a3.IsWhole)
variable {a4 : Memref sig .tc .vmem S1x1x256 .i32} (h4 : a4.IsWhole)
variable {a5 : Memref sig .tc .vmem S1x128 .f32} (h5 : a5.IsWhole)
variable {a6 : Memref sig .tc .vmem S256x8192 .bf16} (h6 : a6.IsWhole)
variable {a7 : Memref sig .tc .vmem S256x8192 .bf16} (h7 : a7.IsWhole)
variable {a8 : Memref sig .tc .vmem S256x128 .f32} (h8 : a8.IsWhole)
variable {a9 : Memref sig .tc .vmem S256x128 .f32} (h9 : a9.IsWhole)
variable {a10 : Memref sig .tc .vmem S256x8192 .bf16} (h10 : a10.IsWhole)
variable {a11 : Memref sig .tc .vmem S8448x128 .i32} (h11 : a11.IsWhole)

/-- The loop: all of `h` becomes the sums. -/
theorem loop : St c a1 a2 a3 a4 a5 a6 a7 a8 a9 a10 a11 I (sums I.x I.r) (known 0 0) ⊢ wp frame (wpE (defs₀ (F := F)) Variants.none c none) Set.univ (Scf.Loop.for k0_t1_loop k0_t1_ok ⟨⟩ (k0_t1_body i a1 h1 a2 h2 a3 h3 a4 h4 a5 h5 a6 h6 a7 h7 a8 h8 a9 h9 a10 h10 a11 h11)) (fun _ => St c a1 a2 a3 a4 a5 a6 a7 a8 a9 a10 a11 I (sums I.x I.r) (known 16 0)) := by
  refine BI.Entails.trans ?_ (Scf.wp_for Idealize.ShloMosaic.frame (wpE (defs₀ (F := F)) Variants.none c none) Set.univ _ _ _ k0_t1_ok _
    (k0_t1_body i a1 h1 a2 h2 a3 h3 a4 h4 a5 h5 a6 h6 a7 h7 a8 h8 a9 h9 a10 h10 a11 h11) (fun n _ => St c a1 a2 a3 a4 a5 a6 a7 a8 a9 a10 a11 I (sums I.x I.r) (known n 0)) (fun t u => trip i h1 h2 h3 h4 h5 h6 h7 h8 h9 h10 h11 t u))
  show (St c a1 a2 a3 a4 a5 a6 a7 a8 a9 a10 a11 I (sums I.x I.r) (known 0 0) : sProp 𝕄) ⊢ iprop(St c a1 a2 a3 a4 a5 a6 a7 a8 a9 a10 a11 I (sums I.x I.r) (known 0 0) ∗ (∀ acc : PUnit, St c a1 a2 a3 a4 a5 a6 a7 a8 a9 a10 a11 I (sums I.x I.r) (known k0_t1_loop.trips 0) -∗ St c a1 a2 a3 a4 a5 a6 a7 a8 a9 a10 a11 I (sums I.x I.r) (known 16 0)))
  iintro HS
  isplitl [HS]
  · iexact HS
  iintro %u HS
  rw [trips_eq]
  iexact HS

/-- The loop and the first stretch after it. -/
theorem part8 : St c a1 a2 a3 a4 a5 a6 a7 a8 a9 a10 a11 I (sums I.x I.r) (known 0 0) ⊢ wp frame (wpE (defs₀ (F := F)) Variants.none c none) Set.univ (k0_part8 i a1 h1 a2 h2 a3 h3 a4 h4 a5 h5 a6 h6 a7 h7 a8 h8 a9 h9 a10 h10 a11 h11) (fun _ => St c a1 a2 a3 a4 a5 a6 a7 a8 a9 a10 a11 I (sums I.x I.r) (known 16 0)) := by
  rw [k0_part8_eq_skeleton]; unfold k0_part8_skel
  rw [wp_bind]
  refine BI.Entails.trans (loop i h1 h2 h3 h4 h5 h6 h7 h8 h9 h10 h11) (wp_mono _ _ _ fun v => ?_)
  refine St.load10 fun _ => ?_
  refine St.load11 fun _ => ?_
  refine St.store11 ?_
  refine St.load11 fun _ => ?_
  refine St.store11 ?_
  refine St.load11 fun _ => ?_
  refine St.store11 ?_
  refine St.load11 fun _ => ?_
  refine St.store11 ?_
  refine St.load10 fun _ => ?_
  refine St.load11 fun _ => ?_
  refine St.store11 ?_
  refine St.load11 fun _ => ?_
  refine St.store11 ?_
  exact St.done

/-- The body's run: `h` ends as the sums, the inputs end unchanged. -/
theorem body : St c a1 a2 a3 a4 a5 a6 a7 a8 a9 a10 a11 I (sums I.x I.r) (known 0 0) ⊢ wp frame (wpE (defs₀ (F := F)) Variants.none c none) Set.univ (cc0_norm i a1 h1 a2 h2 a3 h3 a4 h4 a5 h5 a6 h6 a7 h7 a8 h8 a9 h9 a10 h10 a11 h11) (fun _ => St c a1 a2 a3 a4 a5 a6 a7 a8 a9 a10 a11 I (sums I.x I.r) (known 16 0)) := by
  rw [cc0_norm_eq_skeleton]; unfold cc0_norm_skel
  rw [wp_bind]
  refine BI.Entails.trans (part8 i h1 h2 h3 h4 h5 h6 h7 h8 h9 h10 h11) (wp_mono _ _ _ fun v => ?_)
  obtain ⟨_, _⟩ := v
  refine St.next (part9 i h1 h2 h3 h4 h5 h6 h7 h8 h9 h10 h11 _ _) fun v => ?_
  obtain ⟨_, _⟩ := v
  refine St.next (part10 i h1 h2 h3 h4 h5 h6 h7 h8 h9 h10 h11 _ _) fun v => ?_
  obtain ⟨_, _⟩ := v
  refine St.next (part11 i h1 h2 h3 h4 h5 h6 h7 h8 h9 h10 h11 _ _) fun v => ?_
  refine St.next (part12 i h1 h2 h3 h4 h5 h6 h7 h8 h9 h10 h11) fun v => ?_
  refine St.next (part13 i h1 h2 h3 h4 h5 h6 h7 h8 h9 h10 h11 _) fun v => ?_
  obtain ⟨_, _, _⟩ := v
  refine St.next (part14 i h1 h2 h3 h4 h5 h6 h7 h8 h9 h10 h11 _ _ _) fun v => ?_
  obtain ⟨_, _⟩ := v
  refine St.next (part15 i h1 h2 h3 h4 h5 h6 h7 h8 h9 h10 h11 _ _) fun v => ?_
  obtain ⟨_, _⟩ := v
  refine St.next (part16 i h1 h2 h3 h4 h5 h6 h7 h8 h9 h10 h11 _ _) fun v => ?_
  refine St.next (part17 i h1 h2 h3 h4 h5 h6 h7 h8 h9 h10 h11 _) fun v => ?_
  refine St.next (part18 i h1 h2 h3 h4 h5 h6 h7 h8 h9 h10 h11 _) fun v => ?_
  refine St.next (part19 i h1 h2 h3 h4 h5 h6 h7 h8 h9 h10 h11 _) fun v => ?_
  obtain ⟨_, _⟩ := v
  refine St.next (part20 i h1 h2 h3 h4 h5 h6 h7 h8 h9 h10 h11 _ _) fun v => ?_
  obtain ⟨_, _⟩ := v
  refine St.next (part21 i h1 h2 h3 h4 h5 h6 h7 h8 h9 h10 h11 _ _) fun v => ?_
  obtain ⟨_, _⟩ := v
  refine St.next (part22 i h1 h2 h3 h4 h5 h6 h7 h8 h9 h10 h11 _ _) fun v => ?_
  refine St.next (part23 i h1 h2 h3 h4 h5 h6 h7 h8 h9 h10 h11) fun v => ?_
  refine St.next (part24 i h1 h2 h3 h4 h5 h6 h7 h8 h9 h10 h11 _) fun v => ?_
  obtain ⟨_, _, _⟩ := v
  refine St.next (part25 i h1 h2 h3 h4 h5 h6 h7 h8 h9 h10 h11 _ _ _) fun v => ?_
  obtain ⟨_, _⟩ := v
  refine St.next (part26 i h1 h2 h3 h4 h5 h6 h7 h8 h9 h10 h11 _ _) fun v => ?_
  obtain ⟨_, _⟩ := v
  refine St.next (part27 i h1 h2 h3 h4 h5 h6 h7 h8 h9 h10 h11 _ _) fun v => ?_
  refine St.next (part28 i h1 h2 h3 h4 h5 h6 h7 h8 h9 h10 h11 _) fun v => ?_
  refine St.next (part29 i h1 h2 h3 h4 h5 h6 h7 h8 h9 h10 h11 _) fun v => ?_
  refine St.next (part30 i h1 h2 h3 h4 h5 h6 h7 h8 h9 h10 h11 _) fun v => ?_
  obtain ⟨_, _⟩ := v
  refine St.next (part31 i h1 h2 h3 h4 h5 h6 h7 h8 h9 h10 h11 _ _) fun v => ?_
  obtain ⟨_, _⟩ := v
  refine St.next (part32 i h1 h2 h3 h4 h5 h6 h7 h8 h9 h10 h11 _ _) fun v => ?_
  obtain ⟨_, _⟩ := v
  refine St.next (part33 i h1 h2 h3 h4 h5 h6 h7 h8 h9 h10 h11 _ _) fun v => ?_
  refine St.next (part34 i h1 h2 h3 h4 h5 h6 h7 h8 h9 h10 h11) fun v => ?_
  refine St.next (part35 i h1 h2 h3 h4 h5 h6 h7 h8 h9 h10 h11 _) fun v => ?_
  obtain ⟨_, _, _⟩ := v
  refine St.next (part36 i h1 h2 h3 h4 h5 h6 h7 h8 h9 h10 h11 _ _ _) fun v => ?_
  obtain ⟨_, _⟩ := v
  refine St.next (part37 i h1 h2 h3 h4 h5 h6 h7 h8 h9 h10 h11 _ _) fun v => ?_
  obtain ⟨_, _⟩ := v
  refine St.next (part38 i h1 h2 h3 h4 h5 h6 h7 h8 h9 h10 h11 _ _) fun v => ?_
  refine St.next (part39 i h1 h2 h3 h4 h5 h6 h7 h8 h9 h10 h11 _) fun v => ?_
  refine St.next (part40 i h1 h2 h3 h4 h5 h6 h7 h8 h9 h10 h11 _) fun v => ?_
  refine St.next (part41 i h1 h2 h3 h4 h5 h6 h7 h8 h9 h10 h11 _) fun v => ?_
  obtain ⟨_, _⟩ := v
  refine St.next (part42 i h1 h2 h3 h4 h5 h6 h7 h8 h9 h10 h11 _ _) fun v => ?_
  obtain ⟨_, _⟩ := v
  refine St.next (part43 i h1 h2 h3 h4 h5 h6 h7 h8 h9 h10 h11 _ _) fun v => ?_
  refine St.next (part44 i h1 h2 h3 h4 h5 h6 h7 h8 h9 h10 h11 _) fun v => ?_
  refine St.next (part45 i h1 h2 h3 h4 h5 h6 h7 h8 h9 h10 h11) fun v => ?_
  refine St.next (part46 i h1 h2 h3 h4 h5 h6 h7 h8 h9 h10 h11 _) fun v => ?_
  refine St.next (part47 i h1 h2 h3 h4 h5 h6 h7 h8 h9 h10 h11 _) fun v => ?_
  refine St.next (part48 i h1 h2 h3 h4 h5 h6 h7 h8 h9 h10 h11) fun v => ?_
  refine St.next (part49 i h1 h2 h3 h4 h5 h6 h7 h8 h9 h10 h11 _) fun v => ?_
  refine St.next (part50 i h1 h2 h3 h4 h5 h6 h7 h8 h9 h10 h11 _) fun v => ?_
  refine St.next (part51 i h1 h2 h3 h4 h5 h6 h7 h8 h9 h10 h11) fun v => ?_
  refine St.next (part52 i h1 h2 h3 h4 h5 h6 h7 h8 h9 h10 h11 _) fun v => ?_
  refine St.next (part53 i h1 h2 h3 h4 h5 h6 h7 h8 h9 h10 h11 _) fun v => ?_
  refine St.store9 ?_
  exact St.done

end Cert.Norm

end
-- ==== Proof.Norm.Run.lean ====
/- The norm call's run. The proof names what the body leaves in `h`'s staging buffer and in the inputs'; the other three outputs'
   staging buffers are handed to the body at some contents and taken back at some contents. -/
module

public import proofs.«01_k».proof.Proof.Norm.Body
public import proofs.«01_k».proof.Proof.Gen.KernelH.Frame
public import proofs.«01_k».proof.Proof.Proj.Whole

@[expose] public section

set_option maxRecDepth 16384

noncomputable section

namespace Cert.Norm

open Cert.KernelH Cert.KernelH.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Window 0's staging buffer at a grid point. -/
abbrev ms0 (t : Fin cfg0.N) : Memref sig .tc .vmem S256x8192 .bf16 := win0_0.stage (cfg0.slots t 0)
/-- Window 1's staging buffer at a grid point. -/
abbrev ms1 (t : Fin cfg0.N) : Memref sig .tc .vmem S256x8192 .bf16 := win0_1.stage (cfg0.slots t 1)
/-- Window 2's staging buffer at a grid point. -/
abbrev ms2 (t : Fin cfg0.N) : Memref sig .tc .vmem S1x8192 .f32 := win0_2.stage (cfg0.slots t 2)
/-- Window 3's staging buffer at a grid point. -/
abbrev ms3 (t : Fin cfg0.N) : Memref sig .tc .vmem S1x1x256 .i32 := win0_3.stage (cfg0.slots t 3)
/-- Window 4's staging buffer at a grid point. -/
abbrev ms4 (t : Fin cfg0.N) : Memref sig .tc .vmem S1x128 .f32 := win0_4.stage (cfg0.slots t 4)
/-- Window 5's staging buffer at a grid point. -/
abbrev ms5 (t : Fin cfg0.N) : Memref sig .tc .vmem S256x8192 .bf16 := win0_5.stage (cfg0.slots t 5)
/-- Window 6's staging buffer at a grid point. -/
abbrev ms6 (t : Fin cfg0.N) : Memref sig .tc .vmem S256x8192 .bf16 := win0_6.stage (cfg0.slots t 6)
/-- Window 7's staging buffer at a grid point. -/
abbrev ms7 (t : Fin cfg0.N) : Memref sig .tc .vmem S256x128 .f32 := win0_7.stage (cfg0.slots t 7)
/-- Window 8's staging buffer at a grid point. -/
abbrev ms8 (t : Fin cfg0.N) : Memref sig .tc .vmem S256x128 .f32 := win0_8.stage (cfg0.slots t 8)

/-- The two scratch buffers. -/
abbrev sc0 : Memref sig .tc .vmem S256x8192 .bf16 := Memref.whole cc0_scratch0
abbrev sc1 : Memref sig .tc .vmem S8448x128 .i32 := Memref.whole cc0_scratch1

/-- What the pipeline keeps between points: the scratch buffers at some contents and the generator's register. -/
theorem phi_eq (c : Dev nD) : (Pipeline.ΦA spec0 c : sProp 𝕄) = iprop((held c sc0 ∗ held c sc1) ∗ (∃ r, prngReg c r)) := by
  unfold Pipeline.ΦA held; rw [scopedRest0_eq]; simp only [sc0, sc1, owns_whole]; try rfl

/-- What the body leaves: the inputs' blocks in place, the sums in `h`'s buffer. (Of windows 6 to 8 nothing is used.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sums (iblk m c 0 t) (iblk m c 1 t)
    | ⟨6, _⟩ => iblk m c 6 t
    | ⟨7, _⟩ => iblk m c 7 t
    | ⟨8, _⟩ => iblk m c 8 t
  Φ _ := Pipeline.ΦA spec0 c
  q _ := fullShare
  owed _ := 0

/-- The windows of which nothing is said. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true

/-- The arrays as the pipeline finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = sums (iblk m c 0 t) (iblk m c 1 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a grid point. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ X, owns (c : Thread nD τ) (ms6 t) fullShare X)
    ∗ (∃ X, owns (c : Thread nD τ) (ms7 t) fullShare X)
    ∗ (∃ X, owns (c : Thread nD τ) (ms8 t) fullShare X))

/-- What it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ X, owns (c : Thread nD τ) (ms6 t) fullShare X)
    ∗ (∃ X, owns (c : Thread nD τ) (ms7 t) fullShare X)
    ∗ (∃ X, owns (c : Thread nD τ) (ms8 t) fullShare X))

/-- The five inputs' blocks at a grid point. -/
def ins (c : Dev nD) (t : Fin cfg0.N) : Ins F := ⟨iblk m c 0 t, iblk m c 1 t, iblk m c 2 t, iblk m c 3 t, iblk m c 4 t⟩

/-- The body's state at a grid point. -/
abbrev st (c : Dev nD) (t : Fin cfg0.N) (S : S256x8192.Idx → Prop) : sProp 𝕄 :=
  St c (ms0 t) (ms1 t) (ms2 t) (ms3 t) (ms4 t) (ms5 t) (ms6 t) (ms7 t) (ms8 t) sc0 sc1 (ins m c t) (sums (ins m c t).x (ins m c t).r) S

/-- The staging buffers the body is handed make up the state in which nothing of `h` is known. -/
theorem enter (c : Dev nD) (t : Fin cfg0.N) :
    pre m c t ⊢ iprop(st m c t (known 0 0) ∗ (∃ r, prngReg c r) ∗ (dats m 0 c).owesAt () t.castSucc) := by
  unfold pre st St held sofar
  simp only [before0, before1, before2, before3, before4]
  rw [show (dats m 0 c).Φ t.castSucc = Pipeline.ΦA spec0 c from rfl, phi_eq]
  unfold held
  iintro ⟨⟨⟨HS, HT⟩, Hg⟩, Ho, ⟨%d0, H0⟩, ⟨%d1, H1⟩, ⟨%d2, H2⟩, ⟨%d3, H3⟩, ⟨%d4, H4⟩, ⟨%d5, H5⟩, H6, H7, H8⟩
  isplitr [Hg Ho]
  · isplitl [H0]; · iexact H0
    isplitl [H1]; · iexact H1
    isplitl [H2]; · iexact H2
    isplitl [H3]; · iexact H3
    isplitl [H4]; · iexact H4
    isplitl [H5]
    · iexists _; isplitr
      swap; · iexact H5
      ipureintro; exact fun i h => (known_zero i h).elim
    isplitl [H6]; · iexact H6
    isplitl [H7]; · iexact H7
    isplitl [H8]; · iexact H8
    isplitl [HS]; · iexact HS
    iexact HT
  isplitl [Hg]; · iexact Hg
  iexact Ho

/-- The state in which all of `h` is known gives the staging buffers back, `h`'s at the sums. -/
theorem leave (c : Dev nD) (t : Fin cfg0.N) :
    iprop(st m c t (known 16 0) ∗ (∃ r, prngReg c r) ∗ (dats m 0 c).owesAt () t.castSucc) ⊢ post m c t := by
  unfold post st St sofar
  rw [show (dats m 0 c).Φ t.succ = Pipeline.ΦA spec0 c from rfl, phi_eq,
    show (dats m 0 c).owesAt () t.succ = (dats m 0 c).owesAt () t.castSucc from rfl,
    after0, after1, after2, after3, after4, after5]
  unfold held
  iintro ⟨⟨H0, H1, H2, H3, H4, ⟨%X, %hX, H5⟩, H6, H7, H8, HS, HT⟩, Hg, Ho⟩
  obtain rfl : X = sums (ins m c t).x (ins m c t).r := funext fun i => hX i (known_all i)
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at a grid point. -/
theorem point (c : Dev nD) (t : Fin cfg0.N) :
    pre m c t ⊢ wp frame (wpE (defs₀ (F := F)) Variants.none c none) Set.univ (bodyAt0 t) (fun _ => post m c t) := by
  refine BI.Entails.trans (enter m c t) ?_
  refine BI.Entails.trans (sep_mono (body (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _)) .rfl) ?_
  exact BI.Entails.trans (wp_frame_r _ _ _) (wp_mono _ _ _ fun _ => leave m c t)

/-- The body table's row at a grid point is the body there. -/
theorem row (t : Fin cfg0.N) : defs₀ (F := F) .tc cfg0.body (cfg0.bodyArgs t (cfg0.slots t)) = bodyAt0 t := by
  unfold defs₀; rw [Defs.onTc_tc]

/-- The body, as the pipeline's rule asks for it. -/
theorem obligation (c : Dev nD) : BodyObligation (dats (F := F) m 0 c) (defs₀ (F := F)) Variants.none () Set.univ fgt := fun t => by
  rw [bigSep_W0, bigSep_W0, row]
  exact triple_restated (point m c t) rfl .rfl fun _ => .rfl

set_option backward.isDefEq.respectTransparency.types false in
/-- The run: at every final state the arrays are what the windows not forgotten say, and every counter is zero. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The windows' block indices at a grid point. -/
theorem idx : ∀ t : Fin cfg0.N, win0_0.index t = ![t.val, 0] ∧ win0_1.index t = ![t.val, 0] ∧ win0_5.index t = ![t.val, 0] :=
  (by decide +kernel : ∀ t : Fin grid0.N, _)

/-- The sums of whole arrays: at each element the wide sum, rounded. -/
def total (x r : S1536x8192.Idx → Elt F .bf16) : S1536x8192.Idx → Elt F .bf16 :=
  truncf (s := S1536x8192) .bf16 (addf (s := S1536x8192) (extf (s := S1536x8192) .f32 x bitsLt_bf16_f32) (extf (s := S1536x8192) .f32 r bitsLt_bf16_f32)) bitsLt_bf16_f32

/-- The sums' array after the run: the sums of the two argument arrays. -/
theorem final (c : Dev nD) : (dats m 0 c).arrAt 5 cfg0.N = total (m ((c : Thread nD τ).loc main_arg0)) (m ((c : Thread nD τ).loc main_arg1)) := by
  refine (dats m 0 c).arrAt_eq_of_covers 5 _ (by decide +kernel) fun t hf y => ?_
  blk_simp
  rw [after5]
  obtain ⟨h0, h1, h5⟩ := idx t
  have e0 : iblk m c 0 t y = m ((c : Thread nD τ).loc main_arg0) ((win0_5.blk t).view.emb y) := by
    blk_ext! [iblk, V, h0, h5]
  have e1 : iblk m c 1 t y = m ((c : Thread nD τ).loc main_arg1) ((win0_5.blk t).view.emb y) := by
    blk_ext! [iblk, V, h1, h5]
  simp only [sums, total, truncf, addf, extf, e0, e1]

/-- The norm call's run: the sums' array ends as the sums of the first two arguments, the arguments as they were, every counter at zero. -/
theorem run_sums : θ_run defs (onTc (τ := τ) (main (F := F))) ⟨m, fun _ => 0, ρ⟩ (fun r => (∀ c : Dev nD,
      r.2.mem ((c.tc : Thread nD τ).loc main_v0_0) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine (θ_run defs _ _).mono (fun r h => ⟨fun c => ?_, h.2⟩) (run m ρ)
  have get : ∀ w : Fin cfg0.W, fgt w = false → r.2.mem ((cfg0.spec w).arr.view.loc c.tc) = (dats m 0 c).arrAt w cfg0.N := fun w hw =>
    ((dats m 0 c).toRForget_arrAt_iff hw _ _).mp ((h.1 c).1 w)
  exact ⟨(get 5 rfl).trans (final m c),
    (get 0 rfl).trans (((dats m 0 c).arrAt_in 0 rfl _).trans ((A_eq m c 0).trans (V_main_arg0 m c))),
    (get 1 rfl).trans (((dats m 0 c).arrAt_in 1 rfl _).trans ((A_eq m c 1).trans (V_main_arg1 m c))),
    (get 2 rfl).trans (((dats m 0 c).arrAt_in 2 rfl _).trans ((A_eq m c 2).trans (V_main_arg2 m c))),
    (get 3 rfl).trans (((dats m 0 c).arrAt_in 3 rfl _).trans ((A_eq m c 3).trans (V_main_arg3 m c))),
    (get 4 rfl).trans (((dats m 0 c).arrAt_in 4 rfl _).trans ((A_eq m c 4).trans (V_main_arg4 m c)))⟩

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Proj.QArray
public import proofs.«01_k».proof.Proof.Proj.QRef
public import proofs.«01_k».proof.Proof.Gen.KernelK
public import proofs.«01_k».proof.Proof.Gen.KernelK.Skeleton
public import proofs.«01_k».proof.Proof.Gen.KernelK.Launch
public import proofs.«01_k».proof.Proof.Gen.KernelK.Points
public import proofs.«01_k».proof.Proof.Gen.KernelK.Frame
public import proofs.«01_k».proof.Proof.Gen.KernelKIdeal
public import proofs.«01_k».proof.Proof.Gen.KernelKIdeal.Skeleton
public import proofs.«01_k».proof.Proof.Gen.KernelKIdeal.Launch
public import proofs.«01_k».proof.Proof.Gen.KernelKIdeal.Points
public import proofs.«01_k».proof.Proof.Gen.KernelKIdeal.Frame
public import proofs.«01_k».proof.Proof.Gen.KernelKIdeal.Value
public import proofs.«01_k».proof.Proof.Gen.ReferenceKIdeal.Run
public import proofs.«01_k».proof.Proof.Gen.ReferenceKIdeal.Read
public import proofs.«01_k».proof.Proof.Gen.ReferenceKIdeal
public import proofs.«01_k».proof.Proof.Proj.KArray
public import proofs.«01_k».proof.Proof.Proj.KRef
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.KernelVIdeal.Value
public import proofs.«01_k».proof.Proof.Gen.ReferenceVIdeal.Run
public import proofs.«01_k».proof.Proof.Gen.ReferenceVIdeal.Read
public import proofs.«01_k».proof.Proof.Gen.ReferenceVIdeal
public import proofs.«01_k».proof.Proof.Proj.VArray
public import proofs.«01_k».proof.Proof.Proj.VRef
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.ReferenceH.Run
public import proofs.«01_k».proof.Proof.Gen.ReferenceH.Read
public import proofs.«01_k».proof.Proof.Gen.ReferenceH
public import proofs.«01_k».proof.Proof.Norm.Run
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end from every memory and leaves its arguments as they were. -/
theorem frame_p : Cert.quiescent_Kernel := fun m ρ _ => Cert.Kernel.Gen.frame m ρ

/-- The idealized kernel runs to the end from every memory and leaves its arguments as they were. -/
theorem frame_pi : Cert.quiescent_KernelIdeal := fun m ρ _ => Cert.KernelIdeal.Gen.frame m ρ

/-- The reference runs to the end from every memory and leaves its arguments as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The packing of two heads into words, and the words read as rows, say what the idealized kernel says of the halves. -/
theorem preserves : Cert.preserves_Kernel_KernelIdeal :=
  open Cert.KernelIdeal IdealRules.bf16_pair in
  ⟨packStatement S128x128, statement S128x2x128 S128x1x128⟩

/-- Over the extended reals the kernel's result is the reference's. -/
theorem algebraic : Cert.algebraic_KernelIdeal_ReferenceIdeal := fun m g m' g' _ hm =>
  ⟨fun c => (Cert.KernelIdeal.Gen.dats m 0 c).arrAt 6 Cert.KernelIdeal.cfg0.N,
    Cert.KernelIdeal.Value.run_blocks m g,
    (θ_run Cert.ReferenceIdeal.defs _ _).mono (fun r h c => ⟨by
        obtain ⟨h0, h1, h2, h3, h4, h5⟩ := hm c
        refine ((h c).1.trans (Cert.ReferenceIdeal.Read.val_main_v65_eq m' c)).trans ?_
        rw [h0, h1, h2, h3, h4, h5]
        exact (Cert.Proj.Ref.out_eq _ _ _ _ _ _).trans (Cert.Proj.Q.final m c).symm, (h c).2⟩)
      (Cert.ReferenceIdeal.Value.run (F := Ideal) m' g')⟩

/-- The kernel runs to the end from every memory and leaves its arguments as they were. -/
theorem frame_p_k : Cert.quiescent_KernelK := fun m ρ _ => Cert.KernelK.Gen.frame m ρ

/-- The idealized kernel runs to the end from every memory and leaves its arguments as they were. -/
theorem frame_pi_k : Cert.quiescent_KernelKIdeal := fun m ρ _ => Cert.KernelKIdeal.Gen.frame m ρ

/-- The reference runs to the end from every memory and leaves its arguments as they were. -/
theorem frame_ri_k : Cert.quiescent_ReferenceKIdeal := fun m ρ _ =>
  (θ_run Cert.ReferenceKIdeal.defs _ _).mono (fun r h => ⟨fun c => (h c).2, sem_eq_zero_of_no_sems (by decide) r.2⟩)
    (Cert.ReferenceKIdeal.Value.run (F := Ideal) m ρ)

/-- The packing of two heads into words, and the words read as rows, say what the idealized kernel says of the halves. -/
theorem preserves_k : Cert.preserves_KernelK_KernelKIdeal :=
  open Cert.KernelKIdeal IdealRules.bf16_pair in
  ⟨packStatement S128x128, statement S128x2x128 S128x1x128⟩

/-- Over the extended reals the kernel's result is the reference's. -/
theorem algebraic_k : Cert.algebraic_KernelKIdeal_ReferenceKIdeal := fun m g m' g' _ hm =>
  ⟨fun c => (Cert.KernelKIdeal.Gen.dats m 0 c).arrAt 6 Cert.KernelKIdeal.cfg0.N,
    Cert.KernelKIdeal.Value.run_blocks m g,
    (θ_run Cert.ReferenceKIdeal.defs _ _).mono (fun r h c => ⟨by
        obtain ⟨h0, h1, h2, h3, h4, h5⟩ := hm c
        refine ((h c).1.trans (Cert.ReferenceKIdeal.Read.val_main_v65_eq m' c)).trans ?_
        rw [h0, h1, h2, h3, h4, h5]
        exact (Cert.Proj.RefK.out_eq _ _ _ _ _ _).trans (Cert.Proj.K.final m c).symm, (h c).2⟩)
      (Cert.ReferenceKIdeal.Value.run (F := Ideal) m' g')⟩

/-- The kernel runs to the end from every memory and leaves its arguments as they were. -/
theorem frame_p_v : Cert.quiescent_KernelV := fun m ρ _ => Cert.KernelV.Gen.frame m ρ

/-- The idealized kernel runs to the end from every memory and leaves its arguments as they were. -/
theorem frame_pi_v : Cert.quiescent_KernelVIdeal := fun m ρ _ => Cert.KernelVIdeal.Gen.frame m ρ

/-- The reference runs to the end from every memory and leaves its arguments as they were. -/
theorem frame_ri_v : Cert.quiescent_ReferenceVIdeal := fun m ρ _ =>
  (θ_run Cert.ReferenceVIdeal.defs _ _).mono (fun r h => ⟨fun c => (h c).2, sem_eq_zero_of_no_sems (by decide) r.2⟩)
    (Cert.ReferenceVIdeal.Value.run (F := Ideal) m ρ)

/-- The packing of two heads into words, and the words read as rows, say what the idealized kernel says of the halves. -/
theorem preserves_v : Cert.preserves_KernelV_KernelVIdeal :=
  open Cert.KernelVIdeal IdealRules.bf16_pair in
  ⟨packStatement S128x128, statement S128x2x128 S128x1x128⟩

/-- Over the extended reals the kernel's result is the reference's. -/
theorem algebraic_v : Cert.algebraic_KernelVIdeal_ReferenceVIdeal := fun m g m' g' _ hm =>
  ⟨fun c => (Cert.KernelVIdeal.Gen.dats m 0 c).arrAt 6 Cert.KernelVIdeal.cfg0.N,
    Cert.KernelVIdeal.Value.run_blocks m g,
    (θ_run Cert.ReferenceVIdeal.defs _ _).mono (fun r h c => ⟨by
        obtain ⟨h0, h1, h2, h3, h4, h5⟩ := hm c
        refine ((h c).1.trans (Cert.ReferenceVIdeal.Read.val_main_v23_eq _ _ _)).trans ?_
        rw [h0, h1, h2]
        exact (Cert.Proj.RefV.out_eq _ _ _).trans (Cert.Proj.V.final m c).symm, (h c).2⟩)
      (Cert.ReferenceVIdeal.Value.run (F := Ideal) m' g')⟩

/-- The norm call runs to the end from every memory and leaves its arguments as they were. -/
theorem frame_p_h : Cert.quiescent_KernelH := fun m ρ _ =>
  (θ_run Cert.KernelH.defs _ _).mono (fun r h => ⟨fun c => (h.1 c).2, h.2⟩) (Cert.Norm.run_sums (F := Bits) m ρ)

/-- The reference runs to the end from every memory and leaves its arguments as they were. -/
theorem frame_rh : Cert.quiescent_ReferenceH := fun m ρ _ =>
  (θ_run Cert.ReferenceH.defs _ _).mono (fun r h => ⟨fun c => (h c).2, sem_eq_zero_of_no_sems (by decide) r.2⟩)
    (Cert.ReferenceH.Value.run (F := Bits) m ρ)

/-- On bits the norm call's first result is the reference's, whatever the arguments hold. -/
theorem bitexact_h : Cert.bitexact_KernelH_ReferenceH := fun m g m' g' _ hm =>
  ⟨fun c => Cert.Norm.total (m ((c.tc : Thread Cert.KernelH.nD Cert.KernelH.τ).loc Cert.KernelH.main_arg0))
      (m ((c.tc : Thread Cert.KernelH.nD Cert.KernelH.τ).loc Cert.KernelH.main_arg1)),
    (θ_run Cert.KernelH.defs _ _).mono (fun r h => h.1) (Cert.Norm.run_sums (F := Bits) m g),
    (θ_run Cert.ReferenceH.defs _ _).mono (fun r h c => ⟨by
        obtain ⟨h0, h1, _⟩ := hm c
        refine (h c).1.trans ?_
        rw [h0, h1]
        rfl, (h c).2⟩)
      (Cert.ReferenceH.Value.run (F := Bits) m' g')⟩

theorem claim : Cert.Claim :=
  ⟨Cert.Kernel.Gen.facts, Cert.KernelIdeal.Gen.facts, Cert.ReferenceIdeal.Gen.facts, Cert.KernelK.Gen.facts, Cert.KernelKIdeal.Gen.facts,
    Cert.ReferenceKIdeal.Gen.facts, Cert.KernelV.Gen.facts, Cert.KernelVIdeal.Gen.facts, Cert.ReferenceVIdeal.Gen.facts,
    Cert.KernelH.Gen.facts, Cert.ReferenceH.Gen.facts,
    frame_p, frame_pi, frame_ri, frame_p_k, frame_pi_k, frame_ri_k, frame_p_v, frame_pi_v, frame_ri_v, frame_p_h, frame_rh,
    preserves, algebraic, preserves_k, algebraic_k, preserves_v, algebraic_v, bitexact_h⟩

end Cert.Proof

end
